-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x4096 : Shape := ⟨2, ![2, 4096]⟩
abbrev S8192x1024 : Shape := ⟨2, ![8192, 1024]⟩
abbrev S4096x1024 : Shape := ⟨2, ![4096, 1024]⟩
abbrev S5x8x1024 : Shape := ⟨3, ![5, 8, 1024]⟩
abbrev S4x2x40x1024 : Shape := ⟨4, ![4, 2, 40, 1024]⟩
abbrev S_ : Shape := ⟨0, ![]⟩
abbrev S1x8x1024 : Shape := ⟨3, ![1, 8, 1024]⟩
abbrev S8x1024 : Shape := ⟨2, ![8, 1024]⟩
abbrev S1x1x40x1024 : Shape := ⟨4, ![1, 1, 40, 1024]⟩
abbrev S40x1024 : Shape := ⟨2, ![40, 1024]⟩

abbrev nBuf : Table → Nat
  | .hbm => 3
  | .shared => 1
  | .local .scVector .vmem => 1
  | _ => 0

abbrev bufTy : (tb : Table) → Fin (nBuf tb) → BufTy
  | .hbm, ⟨0, _⟩ => ⟨S2x4096, .i32⟩
  | .hbm, ⟨1, _⟩ => ⟨S8192x1024, .f32⟩
  | .hbm, ⟨2, _⟩ => ⟨S4096x1024, .f32⟩
  | .shared, ⟨0, _⟩ => ⟨S4x2x40x1024, .f32⟩
  | .local .scVector .vmem, ⟨0, _⟩ => ⟨S5x8x1024, .f32⟩
  | _, _ => ⟨S2x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c12_i32 : BitVec 32 := 12#32
  let v0 : BitVec 1 := Scalar.cmpi .slt arg1 c12_i32
  let v1 : BitVec 32 := Scalar.extui v0
  let c0_i32 : BitVec 32 := 0#32
  let v2 : BitVec 1 := Scalar.cmpi .ne v1 c0_i32
  v2

def k0_off1 (i : grid0.Coords) (c0_i32_2 : BitVec 32) : Fin 2 → Nat :=
  let arg1 : BitVec 32 := BitVec.ofNat 32 (i 1).val
  let c2_i32 : BitVec 32 := 2#32
  let v6 : BitVec 32 := Scalar.muli arg1 c2_i32
  let arg0 : BitVec 32 := BitVec.ofNat 32 (i 0).val
  let v7 : BitVec 32 := Scalar.addi v6 arg0
  let c104_i32 : BitVec 32 := 104#32
  let v8 : BitVec 32 := Scalar.muli v7 c104_i32
  let v9 : BitVec 32 := Scalar.addi v8 c0_i32_2
  let c0_i32_6 : BitVec 32 := 0#32
  ![v9.toNat, 0]
def k0_off2 (i : grid0.Coords) (c0_i32_43 : BitVec 32) : Fin 2 → Nat :=
  let arg1 : BitVec 32 := BitVec.ofNat 32 (i 1).val
  let c2_i32 : BitVec 32 := 2#32
  let v6 : BitVec 32 := Scalar.muli arg1 c2_i32
  let arg0 : BitVec 32 := BitVec.ofNat 32 (i 0).val
  let v7 : BitVec 32 := Scalar.addi v6 arg0
  let c104_i32 : BitVec 32 := 104#32
  let v8 : BitVec 32 := Scalar.muli v7 c104_i32
  let v51 : BitVec 32 := Scalar.addi v8 c0_i32_43
  let c0_i32_47 : BitVec 32 := 0#32
  ![v51.toNat, 0]
def k0_cond2 (i : grid0.Coords) : BitVec 1 :=
  let arg1 : BitVec 32 := BitVec.ofNat 32 (i 1).val
  let c12_i32_0 : BitVec 32 := 12#32
  let v3 : BitVec 1 := Scalar.cmpi .sge arg1 c12_i32_0
  let v4 : BitVec 32 := Scalar.extui v3
  let c0_i32_1 : BitVec 32 := 0#32
  let v5 : BitVec 1 := Scalar.cmpi .ne v4 c0_i32_1
  v5

def k0_off3 (i : grid0.Coords) : Fin 4 → Nat :=
  let arg1 : BitVec 32 := BitVec.ofNat 32 (i 1).val
  let c12_i32_3 : BitVec 32 := 12#32
  let v11 : BitVec 32 := Scalar.subi arg1 c12_i32_3
  let c0_i32_6 : BitVec 32 := 0#32
  let c0_i32_7 : BitVec 32 := 0#32
  let c0_i32_8 : BitVec 32 := 0#32
  ![v11.toNat, 0, 0, 0]
def k0_off4 (i : grid0.Coords) (c0_i32_5 : BitVec 32) : Fin 2 → Nat :=
  let c2496_i32 : BitVec 32 := 2496#32
  let arg1 : BitVec 32 := BitVec.ofNat 32 (i 1).val
  let c12_i32_2 : BitVec 32 := 12#32
  let v6 : BitVec 32 := Scalar.subi arg1 c12_i32_2
  let c2_i32 : BitVec 32 := 2#32
  let v7 : BitVec 32 := Scalar.muli v6 c2_i32
  let arg0 : BitVec 32 := BitVec.ofNat 32 (i 0).val
  let v8 : BitVec 32 := Scalar.addi v7 arg0
  let c200_i32 : BitVec 32 := 200#32
  let v9 : BitVec 32 := Scalar.muli v8 c200_i32
  let v10 : BitVec 32 := Scalar.addi c2496_i32 v9
  let v13 : BitVec 32 := Scalar.addi v10 c0_i32_5
  let c0_i32_9 : BitVec 32 := 0#32
  ![v13.toNat, 0]
def k0_off5 (i : grid0.Coords) : Fin 4 → Nat :=
  let arg1 : BitVec 32 := BitVec.ofNat 32 (i 1).val
  let c12_i32_4 : BitVec 32 := 12#32
  let v12 : BitVec 32 := Scalar.subi arg1 c12_i32_4
  let c1_i32 : BitVec 32 := 1#32
  let c0_i32_10 : BitVec 32 := 0#32
  let c0_i32_11 : BitVec 32 := 0#32
  ![v12.toNat, 1, 0, 0]
def k0_off6 (i : grid0.Coords) (c0_i32_18 : BitVec 32) : Fin 2 → Nat :=
  let c2496_i32 : BitVec 32 := 2496#32
  let arg1 : BitVec 32 := BitVec.ofNat 32 (i 1).val
  let c12_i32_2 : BitVec 32 := 12#32
  let v6 : BitVec 32 := Scalar.subi arg1 c12_i32_2
  let c2_i32 : BitVec 32 := 2#32
  let v7 : BitVec 32 := Scalar.muli v6 c2_i32
  let arg0 : BitVec 32 := BitVec.ofNat 32 (i 0).val
  let v8 : BitVec 32 := Scalar.addi v7 arg0
  let c200_i32 : BitVec 32 := 200#32
  let v9 : BitVec 32 := Scalar.muli v8 c200_i32
  let v10 : BitVec 32 := Scalar.addi c2496_i32 v9
  let v25 : BitVec 32 := Scalar.addi v10 c0_i32_18
  let c0_i32_20 : BitVec 32 := 0#32
  ![v25.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x4096 : Shape := ⟨2, ![2, 4096]⟩
abbrev S8192x1024 : Shape := ⟨2, ![8192, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S8192x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Setup.lean ====
/-
  The kernel as the SparseCore launch theorem sees it: its one launch, the signature of its labels, the ghost state, the
  device buffers it reads and writes, and the program's own names for the windows its copies move.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The launch -/

/-- The labels of the whole program: the kernel's own, with no pipelined region beside them. -/
abbrev Λ : Labels := Pipeline.Sig Λ₀ (Fin 0) fun p => (pcfgs (F := F) p).Adm
/-- The one SparseCore launch of the program. -/
abbrev K : SparseCore.Cfg τ sig (Λ (F := F)) 1 := sc (F := F)
/-- What each label runs. -/
abbrev D [FloatOps F] : Defs nD τ sig (Elt F) (Λ (F := F)) := Pipeline.defs pcfgs defs₀
/-- No loop of the program needs a variant. -/
abbrev 𝒱₀ : Variants := Variants.none
abbrev 𝒱 : Variants := 𝒱₀.lift
abbrev v₀ : 𝒱.V := Sum.inl none

/-- The launch runs sixteen subcores on each of two SparseCores. -/
theorem nSub_eq : (K (F := F)).nSub 0 = 16 := rfl
theorem nCore_eq : (K (F := F)).nCore 0 = 2 := rfl

/-- The launch's semaphores are told apart and none is a kernel's scratch; no shared buffer belongs to the launch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The ghost state: the launch's handshakes, and the counters of the transfers -/

abbrev UH : Type := URounds (GSem nD τ sig) ℕ
abbrev UU : Type := UH × Counters
abbrev EH : Emb UH (MT nD τ sig (HIx 1) (Elt F) ℕ UU ℕ) := embL

/-! ## The buffers -/

/-- The position ids, which the kernel never reads. -/
abbrev pLoc (d : Dev nD) : Loc nD τ sig := (SparseCore.T d).loc main_arg0
/-- The table. -/
abbrev xLoc (d : Dev nD) : Loc nD τ sig := (SparseCore.T d).loc main_arg1
/-- The result. -/
abbrev oLoc (d : Dev nD) : Loc nD τ sig := (SparseCore.T d).loc main_v0
/-- The scratch memory a SparseCore's subcores share. -/
abbrev shRef (c : Fin τ.nSC) : DevRef τ sig := ⟨.shared, ⟨0, by decide⟩, c⟩
abbrev shLoc (d : Dev nD) (c : Fin τ.nSC) : Loc nD τ sig := (d, shRef c)

/-! ## The tile at coordinates `L`, and the windows its copies move -/

/-- The SparseCore of the tile at `L`. -/
abbrev cV (L : grid0.Coords) : Fin τ.nSC := (L 0).castLE hcore0
/-- The subcore of the tile at `L`. -/
abbrev jV (L : grid0.Coords) : Fin τ.nSub := (L 1).castLE hsub0
/-- The tile's thread. -/
abbrev thr (d : Dev nD) (L : grid0.Coords) : Thread nD τ := V d (cV L) (jV L)

abbrev xV : Memref sig .scVector .hbm S8192x1024 .f32 := Memref.whole main_arg1_scv
abbrev oV : Memref sig .scVector .hbm S4096x1024 .f32 := Memref.whole main_v0_scv
abbrev bV : Memref sig .scVector .vmem S5x8x1024 .f32 := Memref.whole cc0_scratch0
abbrev sV : Memref sig .scVector .shared S4x2x40x1024 .f32 := Memref.whole cc0_scratch1

/-- Eight rows of the table, of the result. -/
abbrev x8 (off : Fin 2 → ℕ) (h : ∀ a, off a + S8x1024.size a ≤ S8192x1024.size a) : Memref sig .scVector .hbm S8x1024 .f32 :=
  (xV).slice (Rect.unit (s := S8192x1024) off S8x1024.size h) (fun _ => rfl)
abbrev o8 (off : Fin 2 → ℕ) (h : ∀ a, off a + S8x1024.size a ≤ S4096x1024.size a) : Memref sig .scVector .hbm S8x1024 .f32 :=
  (oV).slice (Rect.unit (s := S4096x1024) off S8x1024.size h) (fun _ => rfl)
/-- Forty rows of the table, of the result. -/
abbrev x40 (off : Fin 2 → ℕ) (h : ∀ a, off a + S40x1024.size a ≤ S8192x1024.size a) : Memref sig .scVector .hbm S40x1024 .f32 :=
  (xV).slice (Rect.unit (s := S8192x1024) off S40x1024.size h) (fun _ => rfl)
abbrev o40 (off : Fin 2 → ℕ) (h : ∀ a, off a + S40x1024.size a ≤ S4096x1024.size a) : Memref sig .scVector .hbm S40x1024 .f32 :=
  (oV).slice (Rect.unit (s := S4096x1024) off S40x1024.size h) (fun _ => rfl)
/-- A slot of a tile's own memory, a slot of the shared one, as the chunk it holds. -/
abbrev b8 (off : Fin 3 → ℕ) (h : ∀ a, off a + S1x8x1024.size a ≤ S5x8x1024.size a) : Memref sig .scVector .vmem S8x1024 .f32 :=
  ((bV).slice (Rect.unit (s := S5x8x1024) off S1x8x1024.size h) (fun _ => rfl)).squeeze S8x1024 squeezes_S1x8x1024_S8x1024
abbrev s40 (off : Fin 4 → ℕ) (h : ∀ a, off a + S1x1x40x1024.size a ≤ S4x2x40x1024.size a) : Memref sig .scVector .shared S40x1024 .f32 :=
  ((sV).slice (Rect.unit (s := S4x2x40x1024) off S1x1x40x1024.size h) (fun _ => rfl)).squeeze S40x1024 squeezes_S1x1x40x1024_S40x1024

/-- A tile's copy kernel over the whole buffers and its own semaphores. -/
abbrev tileProg [FloatOps F] (L : grid0.Coords) : Prog (TpuEff nD τ sig (Elt F) Λ₀ (.scVector (cV L) (jV L))) PUnit :=
  cc0_copy_rows L xV (Memref.isWhole_whole _) oV (Memref.isWhole_whole _) bV (Memref.isWhole_whole _) sV (Memref.isWhole_whole _)
    cc0_scratch2 cc0_scratch3 cc0_scratch4 cc0_scratch5 cc0_scratch6 cc0_scratch7 cc0_scratch8 cc0_scratch9 cc0_scratch10 cc0_scratch11
    cc0_scratch12 cc0_scratch13 cc0_scratch14 cc0_scratch15

end Cert.Proof.Copy

end
-- ==== Proof.Rows.lean ====
/-
  Sets of whole rows of a two-dimensional array of 1024 columns, and the way the kernel deals the first 4096 of them out: a
  tile's block of consecutive rows, and a block's chunks. All of it is arithmetic on row numbers.
-/
module

public import Idealize.ShloMosaic.Lib.Tactic

@[expose] public section

noncomputable section

namespace Cert.Proof.Copy

open Idealize.ShloMosaic

/-- The elements of rows `a ≤ i < b` of an `R` by 1024 array. -/
def rows (R a b : ℕ) : Finset (Shape.Idx ⟨2, ![R, 1024]⟩) := Finset.univ.filter fun i => a ≤ (i 0).val ∧ (i 0).val < b

theorem mem_rows {R a b : ℕ} {i : Shape.Idx ⟨2, ![R, 1024]⟩} : i ∈ rows R a b ↔ a ≤ (i 0).val ∧ (i 0).val < b := by
  simp [rows]

/-- Row ranges one after the other share no element. -/
theorem rows_disjoint {R a b a' b' : ℕ} (h : b ≤ a' ∨ b' ≤ a) : Disjoint (rows R a b) (rows R a' b') := by
  rw [Finset.disjoint_left]; intro i hi hi'
  rw [mem_rows] at hi hi'; omega

/-- A range of `n` chunks of `k` rows is its chunks. -/
theorem rows_chunks (R a k n : ℕ) :
    (Finset.univ : Finset (Fin n)).biUnion (fun r => rows R (a + k * r.val) (a + k * r.val + k)) = rows R a (a + k * n) := by
  ext i
  simp only [Finset.mem_biUnion, Finset.mem_univ, true_and, mem_rows]
  constructor
  · rintro ⟨r, h1, h2⟩
    have : k * (r.val + 1) ≤ k * n := Nat.mul_le_mul_left k r.isLt
    rw [Nat.mul_add] at this; omega
  · rintro ⟨h1, h2⟩
    have hk : 0 < k := Nat.pos_of_ne_zero fun h => by subst h; omega
    have h3 : (i 0).val - a < k * n := by omega
    refine ⟨⟨((i 0).val - a) / k, Nat.div_lt_of_lt_mul h3⟩, ?_, ?_⟩
    · have := Nat.mul_div_le ((i 0).val - a) k; simp only; omega
    · have := Nat.lt_mul_div_succ ((i 0).val - a) hk; rw [Nat.mul_add] at this; simp only; omega

/-- Two different chunks of a range share no element. -/
theorem chunks_disjoint (R a k n : ℕ) : ∀ r ∈ (Finset.univ : Finset (Fin n)), ∀ r' ∈ (Finset.univ : Finset (Fin n)), r ≠ r' →
    Disjoint (rows R (a + k * r.val) (a + k * r.val + k)) (rows R (a + k * r'.val) (a + k * r'.val + k)) := by
  intro r _ r' _ h
  refine rows_disjoint ?_
  rcases Nat.lt_or_gt_of_ne (fun e => h (Fin.ext e)) with h | h
  · have := Nat.mul_le_mul_left k (Nat.succ_le_of_lt h); rw [Nat.mul_succ] at this; omega
  · have := Nat.mul_le_mul_left k (Nat.succ_le_of_lt h); rw [Nat.mul_succ] at this; omega

/-! ## The tiles' blocks -/

/-- The first row of the block of subcore `s` of SparseCore `c`, and the block's number of rows: the first twelve subcores
    take 104 rows each, from row 0 on; the last four take 200 rows each, from row 2496 on. -/
def lo (c s : ℕ) : ℕ := if s < 12 then (2 * s + c) * 104 else 2496 + (2 * (s - 12) + c) * 200
def len (s : ℕ) : ℕ := if s < 12 then 104 else 200

/-- The block of tile `t = (c, s)`. -/
def block (R : ℕ) (t : Fin 2 × Fin 16) : Finset (Shape.Idx ⟨2, ![R, 1024]⟩) := rows R (lo t.1.val t.2.val) (lo t.1.val t.2.val + len t.2.val)

/-- Two tiles' blocks share no element. -/
theorem block_disjoint (R : ℕ) : ∀ t ∈ (Finset.univ : Finset (Fin 2 × Fin 16)), ∀ t' ∈ (Finset.univ : Finset (Fin 2 × Fin 16)), t ≠ t' →
    Disjoint (block R t) (block R t') := by
  rintro ⟨c, s⟩ _ ⟨c', s'⟩ _ h
  have h' : c.val ≠ c'.val ∨ s.val ≠ s'.val := by
    by_contra hn; push Not at hn; exact h (Prod.ext (Fin.ext hn.1) (Fin.ext hn.2))
  refine rows_disjoint ?_
  have hc := c.isLt; have hc' := c'.isLt
  simp only [lo, len]
  split_ifs <;> omega

/-- The blocks together are the first 4096 rows. -/
theorem block_cover (R : ℕ) : (Finset.univ : Finset (Fin 2 × Fin 16)).biUnion (block R) = rows R 0 4096 := by
  ext i
  simp only [Finset.mem_biUnion, Finset.mem_univ, true_and, block, mem_rows, Prod.exists]
  constructor
  · rintro ⟨c, s, h1, h2⟩
    have hc := c.isLt; have hs := s.isLt
    simp only [lo, len] at h1 h2
    split_ifs at h1 h2 <;> omega
  · rintro ⟨-, h⟩
    by_cases hi : (i 0).val < 2496
    · refine ⟨⟨(i 0).val / 104 % 2, by omega⟩, ⟨(i 0).val / 104 / 2, by omega⟩, ?_⟩
      simp only [lo, len]
      rw [if_pos (by omega), if_pos (by omega)]; omega
    · refine ⟨⟨((i 0).val - 2496) / 200 % 2, by omega⟩, ⟨((i 0).val - 2496) / 200 / 2 + 12, by omega⟩, ?_⟩
      simp only [lo, len]
      rw [if_neg (by omega), if_neg (by omega)]; omega

/-- The first 4096 rows of an array of 4096 rows are all of it. -/
theorem rows_all : rows 4096 0 4096 = Finset.univ := by
  ext i; simp only [mem_rows, Finset.mem_univ, iff_true]; exact ⟨Nat.zero_le _, (i 0).isLt⟩

end Cert.Proof.Copy

end
-- ==== Proof.Pieces.lean ====
/-
  The windows the copies move, as sets of rows and of slots; the values a chunk carries from the table through a slot into
  the result; and the splitting of a tile's block into its chunks and of the scratch buffers into their slots.
-/
module

public import proofs.«01_k».proof.Proof.Setup
public import proofs.«01_k».proof.Proof.Rows

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Which arm a tile takes, and where its rows start -/

/-- The first twelve subcores of a SparseCore take the first arm, the last four the second. -/
theorem cond1_iff : ∀ L : grid0.Coords, k0_cond1 L = 1#1 ↔ (L 1).val < 12 := by decide +kernel
theorem cond2_iff : ∀ L : grid0.Coords, k0_cond2 L = 1#1 ↔ ¬ (L 1).val < 12 := by decide +kernel

/-- In the second arm, where the copies start: the table's row, the result's row, and the first and second slot. -/
theorem off4_eq : ∀ (L : grid0.Coords) (_ : k0_cond2 L = 1#1) (r : Fin 5),
    k0_off4 L (BitVec.ofNat 32 (40 * r.val)) = ![2496 + (2 * ((L 1).val - 12) + (L 0).val) * 200 + 40 * r.val, 0] := by decide +kernel
theorem off6_eq : ∀ (L : grid0.Coords) (_ : k0_cond2 L = 1#1) (r : Fin 5),
    k0_off6 L (BitVec.ofNat 32 (40 * r.val)) = ![2496 + (2 * ((L 1).val - 12) + (L 0).val) * 200 + 40 * r.val, 0] := by decide +kernel
theorem off3_eq : ∀ (L : grid0.Coords) (_ : k0_cond2 L = 1#1), k0_off3 L = ![(L 1).val - 12, 0, 0, 0] := by decide +kernel
theorem off5_eq : ∀ (L : grid0.Coords) (_ : k0_cond2 L = 1#1), k0_off5 L = ![(L 1).val - 12, 1, 0, 0] := by decide +kernel

/-! ## The windows as rows -/

/-- Eight rows of the table. -/
theorem set_x8 {off : Fin 2 → ℕ} (h) {a : ℕ} (e : off = ![a, 0]) : (x8 off h).view.set = rows 8192 a (a + 8) := by
  subst e
  refine (View.set_slice_whole _ _).trans (Finset.ext fun i => ?_)
  rw [Rect.mem_set_unit, mem_rows]
  exact Fin.forall_fin_two.trans ⟨fun h => h.1, fun h => ⟨h, Nat.zero_le _, (Nat.zero_add 1024).symm ▸ (i 1).isLt⟩⟩
theorem set_o8 {off : Fin 2 → ℕ} (h) {a : ℕ} (e : off = ![a, 0]) : (o8 off h).view.set = rows 4096 a (a + 8) := by
  subst e
  refine (View.set_slice_whole _ _).trans (Finset.ext fun i => ?_)
  rw [Rect.mem_set_unit, mem_rows]
  exact Fin.forall_fin_two.trans ⟨fun h => h.1, fun h => ⟨h, Nat.zero_le _, (Nat.zero_add 1024).symm ▸ (i 1).isLt⟩⟩
theorem set_x40 {off : Fin 2 → ℕ} (h) {a : ℕ} (e : off = ![a, 0]) : (x40 off h).view.set = rows 8192 a (a + 40) := by
  subst e
  refine (View.set_slice_whole _ _).trans (Finset.ext fun i => ?_)
  rw [Rect.mem_set_unit, mem_rows]
  exact Fin.forall_fin_two.trans ⟨fun h => h.1, fun h => ⟨h, Nat.zero_le _, (Nat.zero_add 1024).symm ▸ (i 1).isLt⟩⟩
theorem set_o40 {off : Fin 2 → ℕ} (h) {a : ℕ} (e : off = ![a, 0]) : (o40 off h).view.set = rows 4096 a (a + 40) := by
  subst e
  refine (View.set_slice_whole _ _).trans (Finset.ext fun i => ?_)
  rw [Rect.mem_set_unit, mem_rows]
  exact Fin.forall_fin_two.trans ⟨fun h => h.1, fun h => ⟨h, Nat.zero_le _, (Nat.zero_add 1024).symm ▸ (i 1).isLt⟩⟩

/-! ## The slots -/

/-- Slot `b` of a tile's own memory. -/
def slot (b : Fin 5) : Finset S5x8x1024.Idx := Finset.univ.filter fun i => (i 0).val = b.val
/-- The slots of the shared memory that belong to subcore `s` — its two if it is one of the last four, else none —, and one
    of them. -/
def shOf (s : Fin 16) : Finset S4x2x40x1024.Idx := Finset.univ.filter fun i => (i 0).val + 12 = s.val
def shSlot (s : Fin 16) (b : Fin 2) : Finset S4x2x40x1024.Idx := Finset.univ.filter fun i => (i 0).val + 12 = s.val ∧ (i 1).val = b.val

/-- A window of eight rows of the tile's own memory is a slot. -/
theorem set_b8 {off : Fin 3 → ℕ} (h) (b : Fin 5) (e : off = ![b.val, 0, 0]) : (b8 off h).view.set = slot b := by
  subst e
  refine ((View.set_reshape _ _).trans (View.set_slice_whole _ _)).trans (Finset.ext fun i => ?_)
  rw [Rect.mem_set_unit]
  simp only [slot, Finset.mem_filter, Finset.mem_univ, true_and]
  constructor
  · intro h; have := h 0
    simp only [Matrix.cons_val_zero] at this
    exact Nat.le_antisymm (Nat.lt_succ_iff.mp this.2) this.1
  · intro h a
    match a with
    | 0 => exact ⟨h.ge, Nat.lt_succ_iff.mpr h.le⟩
    | 1 => exact ⟨Nat.zero_le _, (Nat.zero_add 8).symm ▸ (i 1).isLt⟩
    | 2 => exact ⟨Nat.zero_le _, (Nat.zero_add 1024).symm ▸ (i 2).isLt⟩

/-- A window of forty rows of the shared memory is one of the subcore's two slots. -/
theorem set_s40 {off : Fin 4 → ℕ} (h) (s : Fin 16) (hs : ¬ s.val < 12) (b : Fin 2) (e : off = ![s.val - 12, b.val, 0, 0]) :
    (s40 off h).view.set = shSlot s b := by
  subst e
  refine ((View.set_reshape _ _).trans (View.set_slice_whole _ _)).trans (Finset.ext fun i => ?_)
  rw [Rect.mem_set_unit]
  simp only [shSlot, Finset.mem_filter, Finset.mem_univ, true_and]
  constructor
  · intro h
    have h0 := h 0; have h1 := h 1
    simp only [Matrix.cons_val_zero, Matrix.cons_val_one] at h0 h1
    exact ⟨by have := Nat.le_antisymm (Nat.lt_succ_iff.mp h0.2) h0.1; omega, Nat.le_antisymm (Nat.lt_succ_iff.mp h1.2) h1.1⟩
  · intro h a
    match a with
    | 0 => exact ⟨show s.val - 12 ≤ (i 0).val by omega, show (i 0).val < s.val - 12 + 1 by omega⟩
    | 1 => exact ⟨h.2.ge, Nat.lt_succ_iff.mpr h.2.le⟩
    | 2 => exact ⟨Nat.zero_le _, (Nat.zero_add 40).symm ▸ (i 2).isLt⟩
    | 3 => exact ⟨Nat.zero_le _, (Nat.zero_add 1024).symm ▸ (i 3).isLt⟩

/-! ## The values -/

variable (m : (ℓ : Loc nD τ sig) → Buf (Elt F) ℓ)

/-- The element of the table in the row and column of `i`. -/
def src (i : S4096x1024.Idx) : S8192x1024.Idx := fun a => ⟨(i a).val, lt_of_lt_of_le (i a).isLt ((by decide : ∀ a, S4096x1024.size a ≤ S8192x1024.size a) a)⟩

/-- What the kernel leaves in the result: the first 4096 rows of the table. -/
def out (d : Dev nD) : Buf (Elt F) (oLoc d) := fun i => m (xLoc d) (src i)

/-- What is written through a slot is read back from it, and what is written to a window is read back from it. -/
theorem through {κ κ' : Kind} {sp sp' : Space} {s : Shape} {e : EltTy} (sv : View sig κ sp s e) (ov : View sig κ' sp' s e)
    (fs : sv.ty.Contents (Elt F)) (fo : ov.ty.Contents (Elt F)) (w : s.Idx → Elt F e) (l) (y : s.Idx) :
    ov.read (Elt F) (ov.writes (Elt F) fo [⟨Rect.whole s, sv.read (Elt F) (sv.writes (Elt F) fs (⟨Rect.whole s, w⟩ :: l))⟩]) y = w y := by
  rw [View.read_writes_whole]
  have h := View.read_writes_cons_emb sv fs (Rect.whole s) w l y
  rwa [Rect.emb_whole_apply] at h

/-- Rows of the result read `out` where they read what the table's rows at the same numbers read. -/
theorem out_o8 (d : Dev nD) {off : Fin 2 → ℕ} (h) (h') (y : S8x1024.Idx) :
    out m d ((o8 off h').view.emb y) = (x8 off h).view.read (Elt F) (m (xLoc d)) y := rfl
theorem out_o40 (d : Dev nD) {off : Fin 2 → ℕ} (h) (h') (y : S40x1024.Idx) :
    out m d ((o40 off h').view.emb y) = (x40 off h).view.read (Elt F) (m (xLoc d)) y := rfl

/-- Rows of the result hold `out` once the table's rows at the same numbers have been written there, whatever passed through
    the slot before. -/
theorem landed8 (d : Dev nD) (L : grid0.Coords) {off off' : Fin 2 → ℕ} (e : off' = off) (h : ∀ a, off a + S8x1024.size a ≤ S8192x1024.size a)
    (h' : ∀ a, off' a + S8x1024.size a ≤ S4096x1024.size a) (sv : View sig .scVector .vmem S8x1024 .f32)
    (fs : sv.ty.Contents (Elt F)) (l : List (View.Piece (Elt F) S8x1024 .f32)) (fo : Buf (Elt F) (oLoc d)) (p : S8x1024.Idx → Elt F .f32)
    (hp : p = sv.read (Elt F) (sv.writes (Elt F) fs (⟨Rect.whole S8x1024, (x8 off h).view.read (Elt F) (m (xLoc d))⟩ :: l))) :
    ((o8 off' h').view.loc (thr d L) ↦[(o8 off' h').view.set]{fullShare} (o8 off' h').view.writes (Elt F) fo [⟨Rect.whole S8x1024, p⟩] : sProp 𝕄)
      = (o8 off' h').view.loc (thr d L) ↦[(o8 off' h').view.set]{fullShare} out m d := by
  subst e
  subst hp
  refine pointsTo_congr fun i hi => ?_
  obtain ⟨y, -, rfl⟩ := Finset.mem_map.mp hi
  have a := through sv (o8 off' h').view fs fo ((x8 off' h).view.read (Elt F) (m (xLoc d))) l y
  rw [View.read_apply, cast_eq] at a
  rw [out_o8 m d h h' y]
  exact a

/-- The same of a chunk of forty rows through the shared memory. -/
theorem landed40 (d : Dev nD) (L : grid0.Coords) {off off' : Fin 2 → ℕ} (e : off' = off) (h : ∀ a, off a + S40x1024.size a ≤ S8192x1024.size a)
    (h' : ∀ a, off' a + S40x1024.size a ≤ S4096x1024.size a) (sv : View sig .scVector .shared S40x1024 .f32)
    (fs : sv.ty.Contents (Elt F)) (l : List (View.Piece (Elt F) S40x1024 .f32)) (fo : Buf (Elt F) (oLoc d)) (p : S40x1024.Idx → Elt F .f32)
    (hp : p = sv.read (Elt F) (sv.writes (Elt F) fs (⟨Rect.whole S40x1024, (x40 off h).view.read (Elt F) (m (xLoc d))⟩ :: l))) :
    ((o40 off' h').view.loc (thr d L) ↦[(o40 off' h').view.set]{fullShare} (o40 off' h').view.writes (Elt F) fo [⟨Rect.whole S40x1024, p⟩] : sProp 𝕄)
      = (o40 off' h').view.loc (thr d L) ↦[(o40 off' h').view.set]{fullShare} out m d := by
  subst e
  subst hp
  refine pointsTo_congr fun i hi => ?_
  obtain ⟨y, -, rfl⟩ := Finset.mem_map.mp hi
  have a := through sv (o40 off' h').view fs fo ((x40 off' h).view.read (Elt F) (m (xLoc d))) l y
  rw [View.read_apply, cast_eq] at a
  rw [out_o40 m d h h' y]
  exact a

/-! ## What a tile holds -/

/-- A tile's block of the table, and of the result. -/
abbrev xBlk (d : Dev nD) (t : Fin 2 × Fin 16) : sProp 𝕄 := xLoc d ↦[block 8192 t]{fullShare} m (xLoc d)
abbrev oBlk (d : Dev nD) (t : Fin 2 × Fin 16) (f : Buf (Elt F) (oLoc d)) : sProp 𝕄 := oLoc d ↦[block 4096 t]{fullShare} f
/-- A subcore's slots of its SparseCore's shared memory. -/
abbrev shPts (d : Dev nD) (c : Fin τ.nSC) (s : Fin 16) (f : Buf (Elt F) (shLoc d c)) : sProp 𝕄 := shLoc d c ↦[shOf s]{fullShare} f

/-- The tile at `L`, as a pair. -/
abbrev tL (L : grid0.Coords) : Fin 2 × Fin 16 := (Fin.cast (by rfl) (L 0), Fin.cast (by rfl) (L 1))

/-- A block of either array is its `n` chunks of `k` rows. -/
theorem xBlk_chunks (d : Dev nD) (t : Fin 2 × Fin 16) (k n : ℕ) (h : len t.2.val = k * n) :
    xBlk m d t = bigSep Finset.univ fun r : Fin n => (xLoc d ↦[rows 8192 (lo t.1.val t.2.val + k * r.val) (lo t.1.val t.2.val + k * r.val + k)]{fullShare} m (xLoc d) : sProp 𝕄) := by
  refine Eq.trans ?_ (pointsTo_biUnion (ℓ := xLoc d) Finset.univ (fun r : Fin n => rows 8192 (lo t.1.val t.2.val + k * r.val) (lo t.1.val t.2.val + k * r.val + k)) (chunks_disjoint 8192 _ k n))
  rw [rows_chunks, ← h]; rfl
theorem oBlk_chunks (d : Dev nD) (t : Fin 2 × Fin 16) (f : Buf (Elt F) (oLoc d)) (k n : ℕ) (h : len t.2.val = k * n) :
    oBlk d t f = bigSep Finset.univ fun r : Fin n => (oLoc d ↦[rows 4096 (lo t.1.val t.2.val + k * r.val) (lo t.1.val t.2.val + k * r.val + k)]{fullShare} f : sProp 𝕄) := by
  refine Eq.trans ?_ (pointsTo_biUnion (ℓ := oLoc d) Finset.univ (fun r : Fin n => rows 4096 (lo t.1.val t.2.val + k * r.val) (lo t.1.val t.2.val + k * r.val + k)) (chunks_disjoint 4096 _ k n))
  rw [rows_chunks, ← h]; rfl

/-- A tile's own memory is its five slots. -/
theorem slots_disjoint : ∀ b ∈ (Finset.univ : Finset (Fin 5)), ∀ b' ∈ (Finset.univ : Finset (Fin 5)), b ≠ b' → Disjoint (slot b) (slot b') := by
  intro b _ b' _ h
  rw [Finset.disjoint_left]; intro i hi hi'
  simp only [slot, Finset.mem_filter, Finset.mem_univ, true_and] at hi hi'
  exact h (Fin.ext (hi.symm.trans hi'))
theorem slots_cover : (Finset.univ : Finset (Fin 5)).biUnion slot = Finset.univ := by
  ext i
  simp only [Finset.mem_biUnion, Finset.mem_univ, true_and, slot, Finset.mem_filter, iff_true]
  exact ⟨⟨(i 0).val, (i 0).isLt⟩, rfl⟩

/-- A subcore's slots of the shared memory are its two. -/
theorem shSlots_disjoint (s : Fin 16) : ∀ b ∈ (Finset.univ : Finset (Fin 2)), ∀ b' ∈ (Finset.univ : Finset (Fin 2)), b ≠ b' → Disjoint (shSlot s b) (shSlot s b') := by
  intro b _ b' _ h
  rw [Finset.disjoint_left]; intro i hi hi'
  simp only [shSlot, Finset.mem_filter, Finset.mem_univ, true_and] at hi hi'
  exact h (Fin.ext (hi.2.symm.trans hi'.2))
theorem shSlots_cover (s : Fin 16) : (Finset.univ : Finset (Fin 2)).biUnion (shSlot s) = shOf s := by
  ext i
  simp only [Finset.mem_biUnion, Finset.mem_univ, true_and, shSlot, shOf, Finset.mem_filter]
  exact ⟨fun ⟨_, h, _⟩ => h, fun h => ⟨⟨(i 1).val, (i 1).isLt⟩, h, rfl⟩⟩

/-- The shared memory is the sixteen subcores' slots. -/
theorem shOf_disjoint : ∀ s ∈ (Finset.univ : Finset (Fin 16)), ∀ s' ∈ (Finset.univ : Finset (Fin 16)), s ≠ s' → Disjoint (shOf s) (shOf s') := by
  intro s _ s' _ h
  rw [Finset.disjoint_left]; intro i hi hi'
  simp only [shOf, Finset.mem_filter, Finset.mem_univ, true_and] at hi hi'
  exact h (Fin.ext (hi.symm.trans hi'))
theorem shOf_cover : (Finset.univ : Finset (Fin 16)).biUnion shOf = Finset.univ := by
  ext i
  simp only [Finset.mem_biUnion, Finset.mem_univ, true_and, shOf, Finset.mem_filter, iff_true]
  have h : (i 0).val < 4 := (i 0).isLt
  exact ⟨⟨(i 0).val + 12, by omega⟩, rfl⟩

/-! ## Small steps of both arms -/

/-- A separating conjunction over `n + 1` places is its first and the rest. -/
theorem bigSep_head {n : ℕ} (Φ : Fin (n + 1) → sProp 𝕄) : bigSep Finset.univ Φ = iprop(Φ 0 ∗ bigSep Finset.univ fun r : Fin n => Φ r.succ) := by
  rw [Fin.univ_succ, Finset.cons_eq_insert, bigSep_insert (by simp [Fin.succ_ne_zero]), bigSep_map]; rfl

/-- A wait recorded at no handshake is one a tile's task may record. -/
theorem waits_insert {W W' : Waits sig (HIx 1)} {s : SemLoc sig} (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

end Cert.Proof.Copy

end
-- ==== Proof.OwnMemory.lean ====
/-
  The first arm of the tile's program, taken by subcores 0 to 11: thirteen chunks of eight rows, each read from the table
  into a slot of the tile's own memory and written from there into the result, five slots in turn.
-/
module

public import proofs.«01_k».proof.Proof.Pieces

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ)

/-! ## The tile's resources as the program names them -/

/-- A chunk of the table, of the result, and a slot, held whole. -/
abbrev XA (d : Dev nD) (L : grid0.Coords) (w : BitVec 32) (h : ∀ a, (k0_off1 L w) a + S8x1024.size a ≤ S8192x1024.size a) : sProp 𝕄 :=
  (x8 (k0_off1 L w) h).view.loc (thr d L) ↦[(x8 (k0_off1 L w) h).view.set]{fullShare} m (xLoc d)
abbrev OA (d : Dev nD) (L : grid0.Coords) (w : BitVec 32) (h : ∀ a, (k0_off2 L w) a + S8x1024.size a ≤ S4096x1024.size a) (f : Buf (Elt F) (oLoc d)) : sProp 𝕄 :=
  (o8 (k0_off2 L w) h).view.loc (thr d L) ↦[(o8 (k0_off2 L w) h).view.set]{fullShare} f
abbrev BA (d : Dev nD) (L : grid0.Coords) (off : Fin 3 → ℕ) (h : ∀ a, off a + S1x8x1024.size a ≤ S5x8x1024.size a)
    (f : Buf (Elt F) ((thr d L).loc cc0_scratch0)) : sProp 𝕄 :=
  (b8 off h).view.loc (thr d L) ↦[(b8 off h).view.set]{fullShare} f

/-- The first row a tile of the first arm copies is the first of its block. -/
theorem startA {L : grid0.Coords} (h1 : k0_cond1 L = 1#1) : 208 * (L 1).val + 104 * (L 0).val = lo (tL L).1.val (tL L).2.val := by
  have h := (cond1_iff L).mp h1
  show _ = lo (L 0).val (L 1).val
  rw [lo, if_pos h]; omega
theorem lenA {L : grid0.Coords} (h1 : k0_cond1 L = 1#1) : len (tL L).2.val = 8 * 13 := by
  have h := (cond1_iff L).mp h1
  show len (L 1).val = _
  rw [len, if_pos h]

/-- The tile's block of the table is its chunks, in the program's names. -/
theorem xBlk_A (d : Dev nD) (L : grid0.Coords) (h1 : k0_cond1 L = 1#1) :
    (xBlk m d (tL L) : sProp 𝕄) = iprop(XA m d L 0#32 (k0_off1_inb L h1 0) ∗ XA m d L 8#32 (k0_off1_inb L h1 1) ∗ XA m d L 16#32 (k0_off1_inb L h1 2)
        ∗ XA m d L 24#32 (k0_off1_inb L h1 3) ∗ XA m d L 32#32 (k0_off1_inb L h1 4) ∗ XA m d L 40#32 (k0_off1_inb L h1 5)
        ∗ XA m d L 48#32 (k0_off1_inb L h1 6) ∗ XA m d L 56#32 (k0_off1_inb L h1 7) ∗ XA m d L 64#32 (k0_off1_inb L h1 8)
        ∗ XA m d L 72#32 (k0_off1_inb L h1 9) ∗ XA m d L 80#32 (k0_off1_inb L h1 10) ∗ XA m d L 88#32 (k0_off1_inb L h1 11)
        ∗ XA m d L 96#32 (k0_off1_inb L h1 12)) := by
  rw [xBlk_chunks m d (tL L) 8 13 (lenA h1)]
  refine (bigSep_congr (Ψ := fun r : Fin 13 => XA m d L (BitVec.ofNat 32 (8 * r.val)) (k0_off1_inb L h1 r)) fun r _ => ?_).trans ?_
  · rw [← startA h1]
    unfold XA
    rw [set_x8 _ (k0_off1_eq L r)]
  · rw [bigSep_head, bigSep_head, bigSep_head, bigSep_head, bigSep_head, bigSep_head, bigSep_head, bigSep_head, bigSep_head, bigSep_head, bigSep_head, bigSep_head, bigSep_univ_of_subsingleton (0 : Fin 1)]; rfl

/-- The tile's block of the result is its chunks, in the program's names. -/
theorem oBlk_A (d : Dev nD) (L : grid0.Coords) (h1 : k0_cond1 L = 1#1) (f : Buf (Elt F) (oLoc d)) :
    (oBlk d (tL L) f : sProp 𝕄) = iprop(OA d L 0#32 (k0_off2_inb L h1 0) f ∗ OA d L 8#32 (k0_off2_inb L h1 1) f ∗ OA d L 16#32 (k0_off2_inb L h1 2) f
        ∗ OA d L 24#32 (k0_off2_inb L h1 3) f ∗ OA d L 32#32 (k0_off2_inb L h1 4) f ∗ OA d L 40#32 (k0_off2_inb L h1 5) f
        ∗ OA d L 48#32 (k0_off2_inb L h1 6) f ∗ OA d L 56#32 (k0_off2_inb L h1 7) f ∗ OA d L 64#32 (k0_off2_inb L h1 8) f
        ∗ OA d L 72#32 (k0_off2_inb L h1 9) f ∗ OA d L 80#32 (k0_off2_inb L h1 10) f ∗ OA d L 88#32 (k0_off2_inb L h1 11) f
        ∗ OA d L 96#32 (k0_off2_inb L h1 12) f) := by
  rw [oBlk_chunks d (tL L) f 8 13 (lenA h1)]
  refine (bigSep_congr (Ψ := fun r : Fin 13 => OA d L (BitVec.ofNat 32 (8 * r.val)) (k0_off2_inb L h1 r) f) fun r _ => ?_).trans ?_
  · rw [← startA h1]
    unfold OA
    rw [set_o8 _ (k0_off2_eq L r)]
  · rw [bigSep_head, bigSep_head, bigSep_head, bigSep_head, bigSep_head, bigSep_head, bigSep_head, bigSep_head, bigSep_head, bigSep_head, bigSep_head, bigSep_head, bigSep_univ_of_subsingleton (0 : Fin 1)]; rfl

/-- The tile's own memory is its five slots, and five slots at any contents are it. -/
theorem slots_A (d : Dev nD) (L : grid0.Coords) (f : Buf (Elt F) ((thr d L).loc cc0_scratch0)) :
    ((thr d L).loc cc0_scratch0 ↦{fullShare} f : sProp 𝕄)
      = iprop(BA d L ![0, 0, 0] inb_S5x8x1024_S1x8x1024_0_0_0 f ∗ BA d L ![1, 0, 0] inb_S5x8x1024_S1x8x1024_1_0_0 f ∗ BA d L ![2, 0, 0] inb_S5x8x1024_S1x8x1024_2_0_0 f ∗ BA d L ![3, 0, 0] inb_S5x8x1024_S1x8x1024_3_0_0 f ∗ BA d L ![4, 0, 0] inb_S5x8x1024_S1x8x1024_4_0_0 f) := by
  unfold BA
  rw [set_b8 (off := ![0, 0, 0]) _ 0 rfl, set_b8 (off := ![1, 0, 0]) _ 1 rfl, set_b8 (off := ![2, 0, 0]) _ 2 rfl, set_b8 (off := ![3, 0, 0]) _ 3 rfl, set_b8 (off := ![4, 0, 0]) _ 4 rfl]
  refine Eq.trans ?_ ((pointsTo_biUnion (ℓ := (thr d L).loc cc0_scratch0) (q := fullShare) (f := f) Finset.univ slot slots_disjoint).trans ?_)
  · rw [slots_cover]
  · rw [bigSep_head, bigSep_head, bigSep_head, bigSep_head, bigSep_univ_of_subsingleton (0 : Fin 1)]; rfl
theorem slots_A_join (d : Dev nD) (L : grid0.Coords) (g0 g1 g2 g3 g4 : Buf (Elt F) ((thr d L).loc cc0_scratch0)) :
    iprop(BA d L ![0, 0, 0] inb_S5x8x1024_S1x8x1024_0_0_0 g0 ∗ BA d L ![1, 0, 0] inb_S5x8x1024_S1x8x1024_1_0_0 g1 ∗ BA d L ![2, 0, 0] inb_S5x8x1024_S1x8x1024_2_0_0 g2 ∗ BA d L ![3, 0, 0] inb_S5x8x1024_S1x8x1024_3_0_0 g3 ∗ BA d L ![4, 0, 0] inb_S5x8x1024_S1x8x1024_4_0_0 g4)
      ⊢ (iprop(∃ g, (thr d L).loc cc0_scratch0 ↦{fullShare} g) : sProp 𝕄) := by
  unfold BA
  rw [set_b8 (off := ![0, 0, 0]) _ 0 rfl, set_b8 (off := ![1, 0, 0]) _ 1 rfl, set_b8 (off := ![2, 0, 0]) _ 2 rfl, set_b8 (off := ![3, 0, 0]) _ 3 rfl, set_b8 (off := ![4, 0, 0]) _ 4 rfl]
  refine (Entails.of_eq (Q := bigSep Finset.univ fun b : Fin 5 => ((thr d L).loc cc0_scratch0 ↦[slot b]{fullShare} ![g0, g1, g2, g3, g4] b : sProp 𝕄)) ?_).trans ?_
  · rw [bigSep_head, bigSep_head, bigSep_head, bigSep_head, bigSep_univ_of_subsingleton (0 : Fin 1)]; rfl
  · iintro H
    ihave H' := (pointsTo_biUnion_join (ℓ := (thr d L).loc cc0_scratch0) (q := fullShare) (Val := Elt F) Finset.univ slot ![g0, g1, g2, g3, g4] g0 slots_disjoint) $$ H
    icases H' with ⟨%g, -, Hg⟩
    rw [slots_cover]
    iexists g; iexact Hg

/-- Chunk `r` of the result holds the table's rows once the copy through a slot has landed there. -/
theorem chunkA (d : Dev nD) (L : grid0.Coords) (h1 : k0_cond1 L = 1#1) (r : Fin 13) (w : BitVec 32) (hw : w = BitVec.ofNat 32 (8 * r.val))
    (h : ∀ a, (k0_off1 L w) a + S8x1024.size a ≤ S8192x1024.size a) (h' : ∀ a, (k0_off2 L w) a + S8x1024.size a ≤ S4096x1024.size a)
    (sv : View sig .scVector .vmem S8x1024 .f32) (fs : sv.ty.Contents (Elt F)) (l : List (View.Piece (Elt F) S8x1024 .f32)) (fo : Buf (Elt F) (oLoc d))
    (p : S8x1024.Idx → Elt F .f32)
    (hp : p = sv.read (Elt F) (sv.writes (Elt F) fs (⟨Rect.whole S8x1024, (x8 (k0_off1 L w) h).view.read (Elt F) (m (xLoc d))⟩ :: l))) :
    (OA d L w h' ((o8 (k0_off2 L w) h').view.writes (Elt F) fo [⟨Rect.whole S8x1024, p⟩]) : sProp 𝕄) = OA d L w h' (out m d) := by
  subst hw
  exact landed8 m d L ((k0_off2_eq L r).trans (k0_off1_eq L r).symm) _ _ sv fs l fo p hp

variable [FloatOps F]

set_option maxHeartbeats 4000000 in
/-- The tile's program, from its block of the table and of the result, its slots and its semaphores at zero: it ends with the
    table's block unchanged, the result's block at the table's rows, and its semaphores at zero. -/
theorem armA (d : Dev nD) (L : grid0.Coords) (h1 : k0_cond1 L = 1#1) (f : Buf (Elt F) (oLoc d)) (fs) (O : CellTallies nD τ sig (HIx 1)) (W : Waits sig (HIx 1)) :
    iprop(Transfers.MayWaits (thr d L) (default : HIx 1) O ∗ xBlk m d (tL L) ∗ oBlk d (tL L) f ∗ ((thr d L).loc cc0_scratch0 ↦{fullShare} fs)
        ∗ (semVal (thr d L, .dma cc0_scratch2.sem) 0 ∗ semVal (thr d L, .dma cc0_scratch3.sem) 0 ∗ semVal (thr d L, .dma cc0_scratch4.sem) 0 ∗ semVal (thr d L, .dma cc0_scratch5.sem) 0
        ∗ semVal (thr d L, .dma cc0_scratch6.sem) 0 ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0)
        ∗ owes (thr d L) O W)
      ⊢ wp frame (wpE (defs₀ (F := F)) 𝒱₀ (thr d L) none) Set.univ (tileProg L)
          fun _ => iprop(xBlk m d (tL L) ∗ oBlk d (tL L) (out m d) ∗ (∃ g, (thr d L).loc cc0_scratch0 ↦{fullShare} g)
            ∗ (semVal (thr d L, .dma cc0_scratch2.sem) 0 ∗ semVal (thr d L, .dma cc0_scratch3.sem) 0 ∗ semVal (thr d L, .dma cc0_scratch4.sem) 0 ∗ semVal (thr d L, .dma cc0_scratch5.sem) 0
        ∗ semVal (thr d L, .dma cc0_scratch6.sem) 0 ∗ semVal (thr d L, .dma cc0_scratch7.sem) 0 ∗ semVal (thr d L, .dma cc0_scratch8.sem) 0 ∗ semVal (thr d L, .dma cc0_scratch9.sem) 0
        ∗ semVal (thr d L, .dma cc0_scratch10.sem) 0 ∗ semVal (thr d L, .dma cc0_scratch11.sem) 0)
            ∗ ∃ W', ⌜∀ p ∈ W', p ∈ W ∨ p.2 = none⌝ ∗ owes (thr d L) O W') := by
  have hn : ¬ k0_cond2 L = 1#1 := fun h => (cond2_iff L).mp h ((cond1_iff L).mp h1)
  unfold tileProg
  simp only [cc0_copy_rows_eq_skeleton]; unfold cc0_copy_rows_skel
  iintro ⟨#Hmw, HX, HO, HB, ⟨Hs2, Hs3, Hs4, Hs5, Hs6, Hs7, Hs8, Hs9, Hs10, Hs11⟩, Hw⟩
  ihave HX' := (Entails.of_eq (xBlk_A m d L h1)) $$ HX
  ihave HO' := (Entails.of_eq (oBlk_A d L h1 f)) $$ HO
  ihave HB' := (Entails.of_eq (slots_A d L fs)) $$ HB
  icases HX' with ⟨HX0, HX1, HX2, HX3, HX4, HX5, HX6, HX7, HX8, HX9, HX10, HX11, HX12⟩
  icases HO' with ⟨HO0, HO1, HO2, HO3, HO4, HO5, HO6, HO7, HO8, HO9, HO10, HO11, HO12⟩
  icases HB' with ⟨HB0, HB1, HB2, HB3, HB4⟩
  sl_exec
  sl_step
  ihave HO0 := (Entails.of_eq (chunkA m d L h1 0 0#32 rfl _ _ _ _ _ _ (armA.sl.dma0_5 m d L h1 fs) rfl)) $$ HO0
  ihave HO1 := (Entails.of_eq (chunkA m d L h1 1 8#32 rfl _ _ _ _ _ _ (armA.sl.dma0_7 m d L h1 fs) rfl)) $$ HO1
  ihave HO2 := (Entails.of_eq (chunkA m d L h1 2 16#32 rfl _ _ _ _ _ _ (armA.sl.dma0_9 m d L h1 fs) rfl)) $$ HO2
  ihave HO3 := (Entails.of_eq (chunkA m d L h1 3 24#32 rfl _ _ _ _ _ _ (armA.sl.dma0_11 m d L h1 fs) rfl)) $$ HO3
  ihave HO4 := (Entails.of_eq (chunkA m d L h1 4 32#32 rfl _ _ _ _ _ _ (armA.sl.dma0_13 m d L h1 fs) rfl)) $$ HO4
  ihave HO5 := (Entails.of_eq (chunkA m d L h1 5 40#32 rfl _ _ _ _ _ _ (armA.sl.dma0_15 m d L h1 fs) rfl)) $$ HO5
  ihave HO6 := (Entails.of_eq (chunkA m d L h1 6 48#32 rfl _ _ _ _ _ _ (armA.sl.dma0_17 m d L h1 fs) rfl)) $$ HO6
  ihave HO7 := (Entails.of_eq (chunkA m d L h1 7 56#32 rfl _ _ _ _ _ _ (armA.sl.dma0_19 m d L h1 fs) rfl)) $$ HO7
  ihave HO8 := (Entails.of_eq (chunkA m d L h1 8 64#32 rfl _ _ _ _ _ _ (armA.sl.dma0_21 m d L h1 fs) rfl)) $$ HO8
  ihave HO9 := (Entails.of_eq (chunkA m d L h1 9 72#32 rfl _ _ _ _ _ _ (armA.sl.dma0_22 m d L h1 fs) rfl)) $$ HO9
  ihave HO10 := (Entails.of_eq (chunkA m d L h1 10 80#32 rfl _ _ _ _ _ _ (armA.sl.dma0_23 m d L h1 fs) rfl)) $$ HO10
  ihave HO11 := (Entails.of_eq (chunkA m d L h1 11 88#32 rfl _ _ _ _ _ _ (armA.sl.dma0_24 m d L h1 fs) rfl)) $$ HO11
  ihave HO12 := (Entails.of_eq (chunkA m d L h1 12 96#32 rfl _ _ _ _ _ _ (armA.sl.dma0_25 m d L h1 fs) rfl)) $$ HO12
  ihave HB := (slots_A_join d L _ _ _ _ _) $$ [HB0 HB1 HB2 HB3 HB4]
  · iframe
  rw [xBlk_A m d L h1, oBlk_A d L h1]
  iframe
  isplitl [Hs2 Hs3 Hs4 Hs5 Hs6 Hs7 Hs8 Hs9 Hs10 Hs11]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  iexists _; isplitr
  swap; · iexact Hw
  ipureintro; repeat' apply waits_insert
  exact fun p hp => .inl hp

end Cert.Proof.Copy

end
-- ==== Proof.SharedMemory.lean ====
/-
  The second arm of the tile's program, taken by subcores 12 to 15: five chunks of forty rows, each read from the table
  into a slot of the SparseCore's shared memory and written from there into the result, two slots in turn.
-/
module

public import proofs.«01_k».proof.Proof.Pieces

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ)

/-! ## The tile's resources as the program names them -/

/-- A chunk of the table, of the result, and a slot, held whole. -/
abbrev XB (d : Dev nD) (L : grid0.Coords) (w : BitVec 32) (h : ∀ a, (k0_off4 L w) a + S40x1024.size a ≤ S8192x1024.size a) : sProp 𝕄 :=
  (x40 (k0_off4 L w) h).view.loc (thr d L) ↦[(x40 (k0_off4 L w) h).view.set]{fullShare} m (xLoc d)
abbrev OB (d : Dev nD) (L : grid0.Coords) (w : BitVec 32) (h : ∀ a, (k0_off6 L w) a + S40x1024.size a ≤ S4096x1024.size a) (f : Buf (Elt F) (oLoc d)) : sProp 𝕄 :=
  (o40 (k0_off6 L w) h).view.loc (thr d L) ↦[(o40 (k0_off6 L w) h).view.set]{fullShare} f
abbrev SB (d : Dev nD) (L : grid0.Coords) (off : Fin 4 → ℕ) (h : ∀ a, off a + S1x1x40x1024.size a ≤ S4x2x40x1024.size a)
    (f : Buf (Elt F) (shLoc d (cV L))) : sProp 𝕄 :=
  (s40 off h).view.loc (thr d L) ↦[(s40 off h).view.set]{fullShare} f

/-- The first row a tile of the second arm copies is the first of its block. -/
theorem startB {L : grid0.Coords} (h2 : k0_cond2 L = 1#1) : 2496 + (2 * ((L 1).val - 12) + (L 0).val) * 200 = lo (tL L).1.val (tL L).2.val := by
  have h := (cond2_iff L).mp h2
  show _ = lo (L 0).val (L 1).val
  rw [lo, if_neg h]
theorem lenB {L : grid0.Coords} (h2 : k0_cond2 L = 1#1) : len (tL L).2.val = 40 * 5 := by
  have h := (cond2_iff L).mp h2
  show len (L 1).val = _
  rw [len, if_neg h]

/-- The tile's block of the table is its chunks, in the program's names. -/
theorem xBlk_B (d : Dev nD) (L : grid0.Coords) (h2 : k0_cond2 L = 1#1) :
    (xBlk m d (tL L) : sProp 𝕄) = iprop(XB m d L 0#32 (k0_off4_inb L h2 0) ∗ XB m d L 40#32 (k0_off4_inb L h2 1) ∗ XB m d L 80#32 (k0_off4_inb L h2 2)
        ∗ XB m d L 120#32 (k0_off4_inb L h2 3) ∗ XB m d L 160#32 (k0_off4_inb L h2 4)) := by
  rw [xBlk_chunks m d (tL L) 40 5 (lenB h2)]
  refine (bigSep_congr (Ψ := fun r : Fin 5 => XB m d L (BitVec.ofNat 32 (40 * r.val)) (k0_off4_inb L h2 r)) fun r _ => ?_).trans ?_
  · rw [← startB h2]
    unfold XB
    rw [set_x40 _ (off4_eq L h2 r)]
  · rw [bigSep_head, bigSep_head, bigSep_head, bigSep_head, bigSep_univ_of_subsingleton (0 : Fin 1)]; rfl

/-- The tile's block of the result is its chunks, in the program's names. -/
theorem oBlk_B (d : Dev nD) (L : grid0.Coords) (h2 : k0_cond2 L = 1#1) (f : Buf (Elt F) (oLoc d)) :
    (oBlk d (tL L) f : sProp 𝕄) = iprop(OB d L 0#32 (k0_off6_inb L h2 0) f ∗ OB d L 40#32 (k0_off6_inb L h2 1) f ∗ OB d L 80#32 (k0_off6_inb L h2 2) f
        ∗ OB d L 120#32 (k0_off6_inb L h2 3) f ∗ OB d L 160#32 (k0_off6_inb L h2 4) f) := by
  rw [oBlk_chunks d (tL L) f 40 5 (lenB h2)]
  refine (bigSep_congr (Ψ := fun r : Fin 5 => OB d L (BitVec.ofNat 32 (40 * r.val)) (k0_off6_inb L h2 r) f) fun r _ => ?_).trans ?_
  · rw [← startB h2]
    unfold OB
    rw [set_o40 _ (off6_eq L h2 r)]
  · rw [bigSep_head, bigSep_head, bigSep_head, bigSep_head, bigSep_univ_of_subsingleton (0 : Fin 1)]; rfl

/-- The slots of the shared memory that the tile may use are its two, and its two at any contents are they. -/
theorem set_slot0 {L : grid0.Coords} (h2 : k0_cond2 L = 1#1) (h) : (s40 (k0_off3 L) h).view.set = shSlot (tL L).2 0 :=
  set_s40 _ (tL L).2 ((cond2_iff L).mp h2) 0 (off3_eq L h2)
theorem set_slot1 {L : grid0.Coords} (h2 : k0_cond2 L = 1#1) (h) : (s40 (k0_off5 L) h).view.set = shSlot (tL L).2 1 :=
  set_s40 _ (tL L).2 ((cond2_iff L).mp h2) 1 (off5_eq L h2)
theorem slots_B (d : Dev nD) (L : grid0.Coords) (h2 : k0_cond2 L = 1#1) (f : Buf (Elt F) (shLoc d (cV L))) :
    (shPts d (cV L) (tL L).2 f : sProp 𝕄) = iprop(SB d L (k0_off3 L) (k0_off3_inb L h2) f ∗ SB d L (k0_off5 L) (k0_off5_inb L h2) f) := by
  unfold SB
  rw [set_slot0 h2, set_slot1 h2]
  refine Eq.trans ?_ ((pointsTo_biUnion (ℓ := shLoc d (cV L)) (q := fullShare) (f := f) Finset.univ (shSlot (tL L).2) (shSlots_disjoint _)).trans ?_)
  · rw [shSlots_cover]
  · rw [bigSep_head, bigSep_univ_of_subsingleton (0 : Fin 1)]; rfl
theorem slots_B_join (d : Dev nD) (L : grid0.Coords) (h2 : k0_cond2 L = 1#1) (g0 g1 : Buf (Elt F) (shLoc d (cV L))) :
    iprop(SB d L (k0_off3 L) (k0_off3_inb L h2) g0 ∗ SB d L (k0_off5 L) (k0_off5_inb L h2) g1)
      ⊢ (iprop(∃ g, shPts d (cV L) (tL L).2 g) : sProp 𝕄) := by
  unfold SB
  rw [set_slot0 h2, set_slot1 h2]
  refine (Entails.of_eq (Q := bigSep Finset.univ fun b : Fin 2 => (shLoc d (cV L) ↦[shSlot (tL L).2 b]{fullShare} ![g0, g1] b : sProp 𝕄)) ?_).trans ?_
  · rw [bigSep_head, bigSep_univ_of_subsingleton (0 : Fin 1)]; rfl
  · iintro H
    ihave H' := (pointsTo_biUnion_join (ℓ := shLoc d (cV L)) (q := fullShare) (Val := Elt F) Finset.univ (shSlot (tL L).2) ![g0, g1] g0 (shSlots_disjoint _)) $$ H
    icases H' with ⟨%g, -, Hg⟩
    rw [shSlots_cover]
    iexists g; iexact Hg

/-- Chunk `r` of the result holds the table's rows once the copy through a slot has landed there. -/
theorem chunkB (d : Dev nD) (L : grid0.Coords) (h2 : k0_cond2 L = 1#1) (r : Fin 5) (w : BitVec 32) (hw : w = BitVec.ofNat 32 (40 * r.val))
    (h : ∀ a, (k0_off4 L w) a + S40x1024.size a ≤ S8192x1024.size a) (h' : ∀ a, (k0_off6 L w) a + S40x1024.size a ≤ S4096x1024.size a)
    (sv : View sig .scVector .shared S40x1024 .f32) (fs : sv.ty.Contents (Elt F)) (l : List (View.Piece (Elt F) S40x1024 .f32)) (fo : Buf (Elt F) (oLoc d))
    (p : S40x1024.Idx → Elt F .f32)
    (hp : p = sv.read (Elt F) (sv.writes (Elt F) fs (⟨Rect.whole S40x1024, (x40 (k0_off4 L w) h).view.read (Elt F) (m (xLoc d))⟩ :: l))) :
    (OB d L w h' ((o40 (k0_off6 L w) h').view.writes (Elt F) fo [⟨Rect.whole S40x1024, p⟩]) : sProp 𝕄) = OB d L w h' (out m d) := by
  subst hw
  exact landed40 m d L ((off6_eq L h2 r).trans (off4_eq L h2 r).symm) _ _ sv fs l fo p hp

variable [FloatOps F]

set_option maxHeartbeats 4000000 in
/-- The tile's program, from its block of the table and of the result, its slots and its semaphores at zero: it ends with the
    table's block unchanged, the result's block at the table's rows, and its semaphores at zero. -/
theorem armB (d : Dev nD) (L : grid0.Coords) (h2 : k0_cond2 L = 1#1) (f : Buf (Elt F) (oLoc d)) (fs) (O : CellTallies nD τ sig (HIx 1)) (W : Waits sig (HIx 1)) :
    iprop(Transfers.MayWaits (thr d L) (default : HIx 1) O ∗ xBlk m d (tL L) ∗ oBlk d (tL L) f ∗ (shPts d (cV L) (tL L).2 fs)
        ∗ (semVal (thr d L, .dma cc0_scratch12.sem) 0 ∗ semVal (thr d L, .dma cc0_scratch13.sem) 0 ∗ semVal (thr d L, .dma cc0_scratch14.sem) 0 ∗ semVal (thr d L, .dma cc0_scratch15.sem) 0)
        ∗ owes (thr d L) O W)
      ⊢ wp frame (wpE (defs₀ (F := F)) 𝒱₀ (thr d L) none) Set.univ (tileProg L)
          fun _ => iprop(xBlk m d (tL L) ∗ oBlk d (tL L) (out m d) ∗ (∃ g, shPts d (cV L) (tL L).2 g)
            ∗ (semVal (thr d L, .dma cc0_scratch12.sem) 0 ∗ semVal (thr d L, .dma cc0_scratch13.sem) 0 ∗ semVal (thr d L, .dma cc0_scratch14.sem) 0 ∗ semVal (thr d L, .dma cc0_scratch15.sem) 0)
            ∗ ∃ W', ⌜∀ p ∈ W', p ∈ W ∨ p.2 = none⌝ ∗ owes (thr d L) O W') := by
  have hn : ¬ k0_cond1 L = 1#1 := fun h => (cond2_iff L).mp h2 ((cond1_iff L).mp h)
  unfold tileProg
  simp only [cc0_copy_rows_eq_skeleton]; unfold cc0_copy_rows_skel
  iintro ⟨#Hmw, HX, HO, HB, ⟨Hs12, Hs13, Hs14, Hs15⟩, Hw⟩
  ihave HX' := (Entails.of_eq (xBlk_B m d L h2)) $$ HX
  ihave HO' := (Entails.of_eq (oBlk_B d L h2 f)) $$ HO
  ihave HB' := (Entails.of_eq (slots_B d L h2 fs)) $$ HB
  icases HX' with ⟨HX0, HX1, HX2, HX3, HX4⟩
  icases HO' with ⟨HO0, HO1, HO2, HO3, HO4⟩
  icases HB' with ⟨HS0, HS1⟩
  sl_exec
  sl_step
  ihave HO0 := (Entails.of_eq (chunkB m d L h2 0 0#32 rfl _ _ _ _ _ _ (armB.sl.dma0_2 m d L h2 fs) rfl)) $$ HO0
  ihave HO1 := (Entails.of_eq (chunkB m d L h2 1 40#32 rfl _ _ _ _ _ _ (armB.sl.dma0_4 m d L h2 fs) rfl)) $$ HO1
  ihave HO2 := (Entails.of_eq (chunkB m d L h2 2 80#32 rfl _ _ _ _ _ _ (armB.sl.dma0_6 m d L h2 fs) rfl)) $$ HO2
  ihave HO3 := (Entails.of_eq (chunkB m d L h2 3 120#32 rfl _ _ _ _ _ _ (armB.sl.dma0_8 m d L h2 fs) rfl)) $$ HO3
  ihave HO4 := (Entails.of_eq (chunkB m d L h2 4 160#32 rfl _ _ _ _ _ _ (armB.sl.dma0_9 m d L h2 fs) rfl)) $$ HO4
  ihave HB := (slots_B_join d L h2 _ _) $$ [HS0 HS1]
  · iframe
  rw [xBlk_B m d L h2, oBlk_B d L h2]
  iframe
  isplitl [Hs12 Hs13 Hs14 Hs15]
  · isplitl [Hs12]; · iexact Hs12
    isplitl [Hs13]; · iexact Hs13
    isplitl [Hs14]; · iexact Hs14
    iexact Hs15
  iexists _; isplitr
  swap; · iexact Hw
  ipureintro; repeat' apply waits_insert
  exact fun p hp => .inl hp

end Cert.Proof.Copy

end
-- ==== Proof.Tile.lean ====
/-
  The tile's whole task: the resources a vector subcore owns, its own memory and its semaphores, the two arms joined on
  the subcore's number, and the obligation the launch asks of every tile.
-/
module

public import proofs.«01_k».proof.Proof.OwnMemory
public import proofs.«01_k».proof.Proof.SharedMemory

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ)

/-! ## The semaphores and the memory a tile owns -/

/-- A separating conjunction over a set is that over `n` of its members and that over the others. -/
theorem bigSep_pick {I : Type} [DecidableEq I] {n : ℕ} (A : Finset I) (c : Fin n ↪ I) (h : ∀ k, c k ∈ A) (Φ : I → sProp 𝕄) :
    bigSep A Φ = iprop((bigSep Finset.univ fun k => Φ (c k)) ∗ bigSep (A \ Finset.univ.map c) Φ) := by
  have hs : Finset.univ.map c ⊆ A := fun x hx => by
    obtain ⟨k, -, rfl⟩ := Finset.mem_map.mp hx; exact h k
  have hu : bigSep (Finset.univ.map c ∪ (A \ Finset.univ.map c)) Φ = iprop(bigSep (Finset.univ.map c) Φ ∗ bigSep (A \ Finset.univ.map c) Φ) :=
    bigSep_union Finset.disjoint_sdiff
  rwa [Finset.union_sdiff_of_subset hs, bigSep_map] at hu

/-- The tile's semaphores: the ten of the first arm, the four of the second. -/
def cellA (d : Dev nD) (L : grid0.Coords) : Fin 10 ↪ GSem nD τ sig :=
  ⟨fun k => (thr d L, .dma ⟨k.val, lt_of_lt_of_le k.isLt (by decide)⟩), fun a b e => by
    have h := (Prod.mk.inj e).2; simp only [SemLoc.dma.injEq, Fin.mk.injEq] at h; exact Fin.ext h⟩
def cellB (d : Dev nD) (L : grid0.Coords) : Fin 4 ↪ GSem nD τ sig :=
  ⟨fun k => (thr d L, .dma ⟨10 + k.val, lt_of_lt_of_le (Nat.add_lt_add_left k.isLt 10) (by decide)⟩), fun a b e => by
    have h := (Prod.mk.inj e).2; simp only [SemLoc.dma.injEq, Fin.mk.injEq] at h; exact Fin.ext (by omega)⟩

/-- The ten semaphores of the first arm are the tile's own. -/
theorem cellA_mem (d : Dev nD) (L : grid0.Coords) (k : Fin 10) : cellA d L k ∈ ownCells (thr d L) :=
  mem_ownCells.mpr ⟨rfl, (by decide : ∀ k : Fin 10, (SemLoc.dma ⟨k.val, lt_of_lt_of_le k.isLt (by decide)⟩ : SemLoc sig).isScoped .scVector = true) k⟩
theorem cellB_mem (d : Dev nD) (L : grid0.Coords) (k : Fin 4) : cellB d L k ∈ ownCells (thr d L) \ Finset.univ.map (cellA d L) := by
  refine Finset.mem_sdiff.mpr ⟨mem_ownCells.mpr ⟨rfl, (by decide : ∀ k : Fin 4,
    (SemLoc.dma ⟨10 + k.val, lt_of_lt_of_le (Nat.add_lt_add_left k.isLt 10) (by decide)⟩ : SemLoc sig).isScoped .scVector = true) k⟩, fun hm => ?_⟩
  obtain ⟨a, -, e⟩ := Finset.mem_map.mp hm
  have h := (Prod.mk.inj e).2; simp only [SemLoc.dma.injEq, Fin.mk.injEq] at h
  have := a.isLt; omega

/-- The semaphores of each arm at zero, and every other semaphore of the tile at zero. -/
abbrev semsA (d : Dev nD) (L : grid0.Coords) : sProp 𝕄 :=
  iprop(semVal (thr d L, .dma cc0_scratch2.sem) 0 ∗ semVal (thr d L, .dma cc0_scratch3.sem) 0 ∗ semVal (thr d L, .dma cc0_scratch4.sem) 0 ∗ semVal (thr d L, .dma cc0_scratch5.sem) 0
    ∗ semVal (thr d L, .dma cc0_scratch6.sem) 0 ∗ semVal (thr d L, .dma cc0_scratch7.sem) 0 ∗ semVal (thr d L, .dma cc0_scratch8.sem) 0 ∗ semVal (thr d L, .dma cc0_scratch9.sem) 0
    ∗ semVal (thr d L, .dma cc0_scratch10.sem) 0 ∗ semVal (thr d L, .dma cc0_scratch11.sem) 0)
abbrev semsB (d : Dev nD) (L : grid0.Coords) : sProp 𝕄 :=
  iprop(semVal (thr d L, .dma cc0_scratch12.sem) 0 ∗ semVal (thr d L, .dma cc0_scratch13.sem) 0 ∗ semVal (thr d L, .dma cc0_scratch14.sem) 0 ∗ semVal (thr d L, .dma cc0_scratch15.sem) 0)
abbrev semsRest (d : Dev nD) (L : grid0.Coords) : sProp 𝕄 :=
  bigSep ((ownCells (thr d L) \ Finset.univ.map (cellA d L)) \ Finset.univ.map (cellB d L)) fun g => semVal g 0

/-- A tile's semaphores, all at zero: those of the first arm, those of the second, and the rest. -/
theorem ownSems0_tile (d : Dev nD) (L : grid0.Coords) :
    (ownSems0 (thr d L) : sProp 𝕄) = iprop(semsA d L ∗ semsB d L ∗ semsRest d L) := by
  unfold SparseCore.Cfg.ownSems0
  rw [bigSep_pick _ (cellA d L) (cellA_mem d L), bigSep_pick _ (cellB d L) (cellB_mem d L)]
  congr 1
  · rw [bigSep_head, bigSep_head, bigSep_head, bigSep_head, bigSep_head, bigSep_head, bigSep_head, bigSep_head, bigSep_head, bigSep_univ_of_subsingleton (0 : Fin 1)]; rfl
  · congr 1
    rw [bigSep_head, bigSep_head, bigSep_head, bigSep_univ_of_subsingleton (0 : Fin 1)]; rfl

/-- The tile's scratch memory is among the buffers it owns. -/
abbrev bufsRest (d : Dev nD) (L : grid0.Coords) : sProp 𝕄 :=
  bigSep ((ownRefs (τ := τ) (.scVector (cV L) (jV L))).erase ((Proc.scVector (cV L) (jV L)).devRef cc0_scratch0))
    fun b => iprop(∃ f, ((d, b) : Loc nD τ sig) ↦{fullShare} f)
theorem ownBufs_tile (d : Dev nD) (L : grid0.Coords) :
    (ownBufs (thr d L) : sProp 𝕄) = iprop((∃ f, (thr d L).loc cc0_scratch0 ↦{fullShare} f) ∗ bufsRest d L) := by
  unfold SparseCore.Cfg.ownBufs
  exact SparseCore.bigSep_erase' (SparseCore.Cfg.mem_ownRefs_of_owner (p := Proc.scVector (cV L) (jV L)) (b := (Proc.scVector (cV L) (jV L)).devRef cc0_scratch0) rfl)

/-! ## The task -/

variable [FloatOps F]

/-- A tile's task: from its block of the table, its block of the result at any contents, its part of the shared memory and
    all it owns, the program of either arm ends with the result's block at the table's rows and the rest as it was. -/
theorem tile_body (d : Dev nD) (L : grid0.Coords) (f : Buf (Elt F) (oLoc d)) (O : CellTallies nD τ sig (HIx 1)) (W : Waits sig (HIx 1)) (hO : ∀ g, O g none = 0) :
    iprop(levAts (K (F := F)).L (K (F := F)).lev ∗ emp
        ∗ (xBlk m d (tL L) ∗ oBlk d (tL L) f ∗ ∃ g, shPts d (cV L) (tL L).2 g)
        ∗ scopedBufs (thr d L) ∗ scopedSems0 (thr d L) ∗ owes (thr d L) O W)
      ⊢ wp frame (wpE (defs₀ (F := F)) 𝒱₀ (thr d L) none) Set.univ (tileProg L)
          fun _ => iprop((xBlk m d (tL L) ∗ oBlk d (tL L) (out m d) ∗ ∃ g, shPts d (cV L) (tL L).2 g)
            ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_tile, ownBufs_tile]
  iintro ⟨#Hlv, -, ⟨Hx, Ho, %g, Hsh⟩, ⟨⟨%fs, Hs⟩, Hbufs⟩, ⟨HA, HB, Hrest⟩, HO⟩
  ihave Hmw := (show levAts (K (F := F)).L (K (F := F)).lev ⊢ Transfers.MayWaits (thr d L) (default : HIx 1) O from
    (K (F := F)).mayWaits_none (thr := thr d L) hO) $$ Hlv
  by_cases hs : (L 1).val < 12
  · iapply (wp_wand frame _ _) $$ [Hmw Hx Ho Hs HA HO]
    · iapply (armA m d L ((cond1_iff L).mpr hs) f fs O W)
      iframe
      iexact Hmw
    iintro %_ ⟨Hx, Ho, Hs, HA, HO⟩
    iframe
    iexists g; iexact Hsh
  · iapply (wp_wand frame _ _) $$ [Hmw Hx Ho Hsh HB HO]
    · iapply (armB m d L ((cond2_iff L).mpr hs) f g O W)
      iframe
      iexact Hmw
    iintro %_ ⟨Hx, Ho, Hsh, HB, HO⟩
    iframe
    iexists fs; iexact Hs

end Cert.Proof.Copy

end
-- ==== Proof.Launch.lean ====
/-
  The launch: what the TensorCore hands the SparseCores and takes back, how a SparseCore deals its share and its shared
  memory out to its sixteen tiles, and the run of the whole program, from any memory and over any float values.
-/
module

public import proofs.«01_k».proof.Proof.Tile

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The tile of the launch's SparseCore `c` and subcore `i`, as a pair. -/
abbrev tCI (c : Fin ((K (F := F)).nCore 0)) (i : Fin ((K (F := F)).nSub 0)) : Fin 2 × Fin 16 := (Fin.cast nCore_eq c, Fin.cast nSub_eq i)

/-- A tile's block of the table, and its block of the result at `f`. -/
abbrev both (d : Dev nD) (f : Buf (Elt F) (oLoc d)) (t : Fin 2 × Fin 16) : sProp 𝕄 := iprop(xBlk m d t ∗ oBlk d t f)
/-- What SparseCore `c` is handed, with the result at `f`: its sixteen tiles' blocks. -/
abbrev coreBoth (d : Dev nD) (f : Buf (Elt F) (oLoc d)) (c : Fin 2) : sProp 𝕄 := bigSep Finset.univ fun s : Fin 16 => both m d f (c, s)
/-- What a tile is handed: its blocks, and its part of the shared memory at some contents. -/
abbrev tileRes (d : Dev nD) (f : Buf (Elt F) (oLoc d)) (k : Fin τ.nSC) (t : Fin 2 × Fin 16) : sProp 𝕄 :=
  iprop(xBlk m d t ∗ oBlk d t f ∗ ∃ g, shPts d k t.2 g)

/-- The launch hands every SparseCore its tiles' blocks and takes them back with the result's at the table's rows; a
    SparseCore does the same with each tile, its part of the shared memory beside them. -/
def P : (K (F := F)).Pay (nD := nD) (Val := Elt F) (Name := ℕ) (U := UU) where
  st := fun q d c => match q with | 0 => coreBoth m d (m (oLoc d)) (Fin.cast nCore_eq c)
  dn := fun q d c => match q with | 0 => coreBoth m d (out m d) (Fin.cast nCore_eq c)
  go := fun q d c i => match q with | 0 => tileRes m d (m (oLoc d)) ((K (F := F)).core 0 c) (tCI c i)
  td := fun q d c i => match q with | 0 => tileRes m d (out m d) ((K (F := F)).core 0 c) (tCI c i)
  x := fun _ _ => iprop(emp)

instance P_storable : (P (F := F) m).IsStorable where
  st q d c := match q with
    | 0 => (inferInstance : BI.Storable (upEmb : UEmb _ 𝕄) (coreBoth m d (m (oLoc d)) (Fin.cast nCore_eq c)))
  dn q d c := match q with
    | 0 => (inferInstance : BI.Storable (upEmb : UEmb _ 𝕄) (coreBoth m d (out m d) (Fin.cast nCore_eq c)))
  go q d c i := match q with
    | 0 => (inferInstance : BI.Storable (upEmb : UEmb _ 𝕄) (tileRes m d (m (oLoc d)) ((K (F := F)).core 0 c) (tCI c i)))
  td q d c i := match q with
    | 0 => (inferInstance : BI.Storable (upEmb : UEmb _ 𝕄) (tileRes m d (out m d) ((K (F := F)).core 0 c) (tCI c i)))

/-! ## The blocks and the buffers -/

/-- The first 4096 rows of the table and the whole result are the blocks of all tiles. -/
theorem both_all (d : Dev nD) (f : Buf (Elt F) (oLoc d)) :
    (bigSep Finset.univ fun c : Fin 2 => coreBoth m d f c)
      = (iprop((xLoc d ↦[rows 8192 0 4096]{fullShare} m (xLoc d)) ∗ oLoc d ↦{fullShare} f) : sProp 𝕄) := by
  rw [← bigSep_univ_prod (fun t : Fin 2 × Fin 16 => both m d f t), bigSep_sep',
    ← pointsTo_biUnion (ℓ := xLoc d) Finset.univ (block 8192) (block_disjoint 8192),
    ← pointsTo_biUnion (ℓ := oLoc d) Finset.univ (block 4096) (block_disjoint 4096), block_cover, block_cover, rows_all]

/-- The shared memory at any contents is its parts. -/
theorem shared_parts (d : Dev nD) (k : Fin τ.nSC) (g : Buf (Elt F) (shLoc d k)) :
    (shLoc d k ↦{fullShare} g : sProp 𝕄) ⊢ bigSep Finset.univ fun s : Fin 16 => iprop(∃ g, shPts d k s g) := by
  refine (Entails.of_eq (Q := bigSep Finset.univ fun s : Fin 16 => shPts d k s g) ?_).trans
    (SparseCore.ent (bigSep_mono fun s _ => BI.BIClass.exists_intro (Φ := fun g => shPts (F := F) d k s g) g))
  rw [← pointsTo_biUnion (ℓ := shLoc d k) Finset.univ shOf shOf_disjoint, shOf_cover]
/-- The shared memory is among the buffers the SparseCore's sequencer owns. -/
theorem ownBufs_core (d : Dev nD) (k : Fin τ.nSC) :
    (ownBufs (S d k) : sProp 𝕄)
      = iprop((∃ g, shLoc d k ↦{fullShare} g) ∗ bigSep ((ownRefs (τ := τ) (.scScalar k)).erase (shRef k)) fun b => iprop(∃ f, ((d, b) : Loc nD τ sig) ↦{fullShare} f)) := by
  unfold SparseCore.Cfg.ownBufs
  exact SparseCore.bigSep_erase' ((mem_ownRefs (p := Proc.scScalar k) (b := shRef k)).mpr rfl)

/-- The tiles of one SparseCore, as the launch counts them and as the blocks do. -/
theorem bigSep_subs (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- A SparseCore's share is its tiles'. -/
theorem tiles_eq (d : Dev nD) (f : Buf (Elt F) (oLoc d)) (c : Fin ((K (F := F)).nCore 0)) :
    (bigSep Finset.univ fun i : Fin ((K (F := F)).nSub 0) => tileRes m d f ((K (F := F)).core 0 c) (tCI c i))
      = iprop(coreBoth m d f (Fin.cast nCore_eq c) ∗ bigSep Finset.univ fun s : Fin 16 => iprop(∃ g, shPts (F := F) d ((K (F := F)).core 0 c) s g)) := by
  refine (bigSep_subs (fun s => tileRes m d f ((K (F := F)).core 0 c) (Fin.cast nCore_eq c, s))).trans ?_
  rw [← bigSep_sep']
  exact bigSep_congr fun s _ => BI.Entails.antisymm BI.sep_assoc' BI.sep_assoc

variable [FloatOps F]

/-- Its parts, each at contents of its own, are it at some contents. -/
theorem shared_join (d : Dev nD) (k : Fin τ.nSC) :
    (bigSep Finset.univ fun s : Fin 16 => iprop(∃ g, shPts d k s g)) ⊢ (iprop(∃ g, shLoc d k ↦{fullShare} g) : sProp 𝕄) := by
  refine (bigSep_exists_pi Finset.univ (fun s (g : Buf (Elt F) (shLoc d k)) => shPts d k s g)).trans ?_
  iintro ⟨%gs, H⟩
  ihave H' := (pointsTo_biUnion_join (ℓ := shLoc d k) (q := fullShare) (Val := Elt F) Finset.univ shOf gs (gs 0) shOf_disjoint) $$ H
  icases H' with ⟨%g, -, Hg⟩
  rw [shOf_cover]
  iexists g; iexact Hg

/-- A SparseCore deals its share and its shared memory out to its tiles, and has both back when they are done. -/
theorem vecSplit : (K (F := F)).VecSplit (P m) 0 := by
  intro d c
  show iprop(coreBoth m d (m (oLoc d)) (Fin.cast nCore_eq c) ∗ ownBufs (S d ((K (F := F)).core 0 c))) ⊢ |={Set.univ}=> iprop(
      (bigSep Finset.univ fun i : Fin ((K (F := F)).nSub 0) => tileRes m d (m (oLoc d)) ((K (F := F)).core 0 c) (tCI c i))
      ∗ ((bigSep Finset.univ fun i : Fin ((K (F := F)).nSub 0) => tileRes m d (out m d) ((K (F := F)).core 0 c) (tCI c i))
          -∗ iprop(coreBoth m d (out m d) (Fin.cast nCore_eq c) ∗ ownBufs (S d ((K (F := F)).core 0 c)))))
  rw [tiles_eq, tiles_eq, ownBufs_core]
  iintro ⟨Hc, ⟨%g, Hsh⟩, Hrest⟩; imodintro
  isplitl [Hc Hsh]
  · isplitl [Hc]; · iexact Hc
    iapply (shared_parts d _ g); iexact Hsh
  iintro ⟨Hc, Hsh⟩
  isplitl [Hc]; · iexact Hc
  isplitl [Hsh]; · iapply (shared_join d _); iexact Hsh
  iexact Hrest

/-! ## The tile's obligation -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- What the launch's label runs on a subcore: the copy kernel, at that subcore's coordinates. -/
theorem defs₀_tile (c : Fin τ.nSC) (s : Fin τ.nSub) :
    defs₀ (F := F) (.scVector c s) 0 () = SparseCore.onTile hcore0 hsub0 (fun c s => tileProg (coordsV c s)) ⟨⟩ c s := rfl

/-- A tile waited on nothing of the launch itself, so what it leaves owed is as the launch allows. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'; isplitr
  · ipureintro; exact fun p hp => (hW' p hp).imp_right Or.inl
  · iexact HO

set_option maxRecDepth 16384 in
/-- Every tile of the launch, run from what it is handed, ends with what it hands back. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body m d (coordsV ⟨_, hci.1⟩ ⟨_, hci.2⟩) (m (oLoc d)) O W hO).trans (wp_mono frame _ _ fun _ => post_weaken)

/-! ## The launch's ghost state -/

/-- The handshakes' cells and tokens; no counter yet. -/
def u₀ : UU := (initOf (K (F := F)).hsCells (K (F := F)).hsToks, 1)

/-- The start gives each device nothing beyond the handshakes. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore -/

/-- The TensorCore's buffers are the position ids, the table and the result. -/
theorem unscopedBufs_eq (d : Dev nD) (W : (b : Ref sig .tc) → Buf (Elt F) ((d.tc : Thread nD τ).loc b)) :
    (unscopedBufs d W : sProp 𝕄) = iprop((pLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the launch takes: the table's first 4096 rows, and the result as it was. -/
theorem st_eq (d : Dev nD) : (bigSep Finset.univ fun c : Fin ((K (F := F)).nCore 0) => (P m).st 0 d c)
    = iprop((xLoc d ↦[rows 8192 0 4096]{fullShare} m (xLoc d)) ∗ oLoc d ↦{fullShare} m (oLoc d)) :=
  both_all m d (m (oLoc d))
/-- What it gives back: the same rows, and the result as those rows. -/
theorem dn_eq (d : Dev nD) : (bigSep Finset.univ fun c : Fin ((K (F := F)).nCore 0) => (P m).dn 0 d c)
    = iprop((xLoc d ↦[rows 8192 0 4096]{fullShare} m (xLoc d)) ∗ oLoc d ↦{fullShare} out m d) :=
  both_all m d (out m d)

/-- What the TensorCore ends with: the arguments as they were, and the result at the table's first 4096 rows. -/
abbrev FIN (d : Dev nD) : sProp 𝕄 :=
  iprop((pLoc d ↦{fullShare} m (pLoc d)) ∗ (xLoc d ↦{fullShare} m (xLoc d)) ∗ oLoc d ↦{fullShare} out m d)

/-- The TensorCore's program: the one launch. Of the table it hands over the first 4096 rows and keeps the rest. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hx, Ho⟩, Hts, -⟩, -⟩
  ihave Hxs := (pointsTo_split_subset (q := fullShare) (f := m (xLoc d)) (S := Finset.univ) (Finset.subset_univ (rows 8192 0 4096))).1 $$ Hx
  icases Hxs with ⟨Hx, Hxr⟩
  iapply ((K (F := F)).wp_run (D (F := F)) 𝒱 (EH := EH) (P := P m) κ d 0) $$ [Hst Hp Hx Hxr Ho Hb Hts]
  isplitr; · iexact Hctx
  isplitl [Hst]; · iexact Hst
  isplitl [Hx Ho]
  · rw [st_eq]
    isplitl [Hx]; · iexact Hx
    iexact Ho
  iintro ⟨Hst, Hdn⟩
  ihave Hdn' := (Entails.of_eq (dn_eq m d)) $$ Hdn
  icases Hdn' with ⟨Hx, Ho⟩
  ihave Hx := (pointsTo_split_subset (q := fullShare) (f := m (xLoc d)) (S := Finset.univ) (Finset.subset_univ (rows 8192 0 4096))).2 $$ [Hx Hxr]
  · isplitl [Hx] <;> iassumption
  imodintro
  isplitl [Hst]; · iexact Hst
  isplitr [Hb Hts]
  · isplitl [Hp]; · iexact Hp
    isplitl [Hx]; · iexact Hx
    iexact Ho
  isplitl [Hb] <;> iassumption

/-! ## The run -/

/-- A device's memory at the end: both arguments unchanged, and the result the table's first 4096 rows. -/
def fq (d : Dev nD) (s' : Phys nD τ sig (Elt F)) : Prop :=
  s'.mem.mem (pLoc d) = m (pLoc d) ∧ s'.mem.mem (xLoc d) = m (xLoc d) ∧ s'.mem.mem (oLoc d) = out m d

set_option maxRecDepth 16384 in
theorem hfin (d : Dev nD) (s' : Phys nD τ sig (Elt F)) : iprop(FIN m d ∗ SI s') ⊢ (⌜fq m d s'⌝ : sProp 𝕄) := by
  iintro ⟨⟨Hp, Hx, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The end of the program: on every device, both arguments unchanged and the result the table's first 4096 rows; every
    semaphore at zero. -/
def QC : PUnit × MemSt nD τ sig (Elt F) → Prop := fun r =>
  (∀ c : Dev nD, r.2.mem (pLoc c) = m (pLoc c) ∧ r.2.mem (xLoc c) = m (xLoc c) ∧ r.2.mem (oLoc c) = out m c) ∧ r.2.sem = fun _ => 0

/-- Every run of the program ends, faultless, at `QC`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.RefValue.lean ====
/-
  The reference's value: its position numbers are 0 to 4095, all of them rows of the table, so that the take reads row `i`
  of the table into row `i` of the result and its range check never replaces a value.
-/
module

public import proofs.«01_k».proof.Proof.Pieces
public import proofs.«01_k».proof.Proof.Gen.ReferenceIdeal
public import proofs.«01_k».proof.Proof.Gen.ReferenceIdeal.Run
public import Idealize.ShloMosaic.Lib.ReduceAll

@[expose] public section

noncomputable section

namespace Cert.Proof.RefValue

open Cert.ReferenceIdeal Cert.ReferenceIdeal.Gen
open Idealize.ShloMosaic
open Cert.Proof.Copy (src)

/-! ## The position numbers -/

/-- A number below 4096, as a signed word, is itself. -/
theorem word_range (n : ℕ) (h : n < 4096) : (BitVec.ofNat 32 n).toInt = n := by
  rw [BitVec.toInt_eq_toNat_cond, BitVec.toNat_ofNat, Nat.mod_eq_of_lt (by omega)]
  rw [if_pos (by omega)]
/-- Such a word is not negative: the test for a negative one fails. -/
theorem word_slt (n : ℕ) (h : n < 4096) : IntOp.cmpi .slt (BitVec.ofNat 32 n) 0#32 = 0#1 := by
  have e := word_range n h
  have : (BitVec.ofNat 32 n).slt 0#32 = false := by
    rw [BitVec.slt_eq_decide, e]; simp
  simp only [IntOp.cmpi, this]; rfl
/-- Such a word is at least zero. -/
theorem word_sge (n : ℕ) (h : n < 4096) : IntOp.cmpi .sge (BitVec.ofNat 32 n) 0#32 = 1#1 := by
  have e := word_range n h
  have : (0#32).sle (BitVec.ofNat 32 n) = true := by
    rw [BitVec.sle_eq_decide, e]; simp
  simp only [IntOp.cmpi, this]; rfl
/-- Such a word is at most 8191, the table's last row. -/
theorem word_sle (n : ℕ) (h : n < 4096) : IntOp.cmpi .sle (BitVec.ofNat 32 n) 8191#32 = 1#1 := by
  have e := word_range n h
  have e' : (8191#32).toInt = 8191 := by decide
  have : (BitVec.ofNat 32 n).sle 8191#32 = true := by
    rw [BitVec.sle_eq_decide, e, e']; simp; omega
  simp only [IntOp.cmpi, this]; rfl

/-- The position numbers as the take uses them: a negative one counted from the table's end. -/
abbrev ids : IVec S4096 32 :=
  select (cmpi .slt (iotaInDim S4096 32 0) (broadcastInDim S4096 ![] bcast_S_S4096 (constantI S_ 32 0#32)))
    (addi (iotaInDim S4096 32 0) (broadcastInDim S4096 ![] bcast_S_S4096 (constantI S_ 32 8192#32))) (iotaInDim S4096 32 0)
/-- None is negative: number `i` is `i`. -/
theorem ids_apply (i : S4096.Idx) : ids i = BitVec.ofNat 32 (i 0).val := by
  have h : cmpi .slt (iotaInDim S4096 32 0) (broadcastInDim S4096 ![] bcast_S_S4096 (constantI S_ 32 0#32)) i = 0#1 := word_slt (i 0).val (i 0).isLt
  show Scalar.select (cmpi .slt (iotaInDim S4096 32 0) (broadcastInDim S4096 ![] bcast_S_S4096 (constantI S_ 32 0#32)) i) _ _ = _
  rw [h]; rfl

/-- The same numbers as a column. -/
abbrev col : IVec S4096x1 32 := broadcastInDim S4096x1 ![0] bcast_S4096_S4096x1_0 ids
/-- The column's entry in row `i` is `i`. -/
theorem col_apply (k : S4096x1.Idx) : col k = BitVec.ofNat 32 (k 0).val := ids_apply _

/-- The take's range check, spread over the result: is the row's position number a row of the table? -/
abbrev inRange : IVec S4096x1024 1 :=
  broadcastInDim S4096x1024 ![0] bcast_S4096_S4096x1024_0 (Host.reduce IntOp.andi
    (andi (cmpi .sge col (broadcastInDim S4096x1 ![] bcast_S_S4096x1 (constantI S_ 32 0#32)))
      (cmpi .sle col (broadcastInDim S4096x1 ![0, 1] bcast_S1x1_S4096x1_0_1 (broadcastInDim S1x1 ![1] bcast_S1_S1x1_1 (constantI S1 32 8191#32)))))
    (constantI S_ 1 1#1) reducesTo_S4096x1_S4096_d1 h_S_)
/-- It is, everywhere. -/
theorem inRange_apply (y : S4096x1024.Idx) : inRange y = 1#1 := by
  refine Host.reduce_andi_one _ _ _ _ _ rfl fun k => ?_
  show IntOp.andi (IntOp.cmpi .sge (col k) 0#32) (IntOp.cmpi .sle (col k) 8191#32) = 1#1
  rw [col_apply, word_sge _ (k 0).isLt, word_sle _ (k 0).isLt]; rfl

/-! ## The take -/

variable {α : Type}

/-- The take at row `i` and column `j` reads the table's row of number `i`, column `j`. -/
theorem take_apply (x : S8192x1024.Idx → α) (y : S4096x1024.Idx) :
    Host.gather gather_S8192x1024_S4096x1_S4096x1024_1_0_n_n_0_1_11024 x col y = x (src y) := by
  unfold Host.gather
  congr 1
  funext a
  refine Fin.ext ?_
  show GatherDims.start _ y col a + GatherDims.batchCoord _ y a + GatherDims.offCoord _ y a = (y a).val
  have ha : a = 0 ∨ a = 1 := by
    match a with
    | 0 => exact .inl rfl
    | 1 => exact .inr rfl
  rcases ha with rfl | rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S4096x1_S4096x1024_1_0_n_n_0_1_11024.startIndexMap from List.mem_singleton.mpr rfl), col_apply]
    have h : (y 0).val < 4096 := (y 0).isLt
    refine (congrArg (fun z : ℤ => min z.toNat (8192 - 1)) (word_range (y 0).val h)).trans ?_
    simp only [Int.toNat_natCast]; omega
  · rw [GatherDims.batchCoord_eq_zero _ _ _ (List.not_mem_nil)]
    unfold GatherDims.start GatherDims.offCoord
    rw [dif_neg (show ¬ (1 : Fin 2) ∈ gather_S8192x1024_S4096x1_S4096x1024_1_0_n_n_0_1_11024.startIndexMap by decide),
      dif_pos (show (1 : Fin 2) ∈ gather_S8192x1024_S4096x1_S4096x1024_1_0_n_n_0_1_11024.sKept by decide)]
    exact (Nat.zero_add _).trans rfl

/-- The reference's result: the table's first 4096 rows, whatever value it would put in place of a row out of range. -/
theorem value (x : S8192x1024.Idx → α) (z : S4096x1024.Idx → α) :
    select inRange (Host.gather gather_S8192x1024_S4096x1_S4096x1024_1_0_n_n_0_1_11024 x col) z = fun y => x (src y) := by
  funext y
  show Scalar.select (inRange y) _ _ = _
  rw [inRange_apply]
  exact take_apply x y

end Cert.Proof.RefValue

end
-- ==== Proof.lean ====
/-
  The proof of `Cert.Claim` (proofs.«01_k».proof.Defs). The kernel's run is `Copy.run_main` (Proof/Launch.lean), proved once
  over any float values; its frames and both value claims read it. The reference's run is the generated `Value.run`, its
  value `RefValue.value` (Proof/RefValue.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Launch
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-! ## Frames -/

/-- The kernel as printed runs without a fault, leaves its arguments alone and its semaphores at zero. -/
theorem frame_kernel : Cert.quiescent_Kernel := fun m ρ _ =>
  (θ_run Cert.KernelIdeal.defs _ _).mono (fun _ h => ⟨fun c => ⟨(h.1 c).1, (h.1 c).2.1⟩, h.2⟩) (Copy.run_main (F := Bits) m ρ)

/-- The same of the kernel over ideal values. -/
theorem frame_kernelIdeal : Cert.quiescent_KernelIdeal := fun m ρ _ =>
  (θ_run Cert.KernelIdeal.defs _ _).mono (fun _ h => ⟨fun c => ⟨(h.1 c).1, (h.1 c).2.1⟩, h.2⟩) (Copy.run_main (F := Ideal) m ρ)

/-- The reference over ideal values runs without a fault and leaves its arguments alone; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference as printed. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## Values -/

/-- Over ideal values, the kernel's result is the reference's: the table's first 4096 rows. -/
theorem algebraic : Cert.algebraic_KernelIdeal_ReferenceIdeal := by
  intro m ρ m' ρ' _ hagree
  refine ⟨fun c => Copy.out m c,
    (θ_run Cert.KernelIdeal.defs _ _).mono (fun _ h c => ⟨(h.1 c).2.2, (h.1 c).1, (h.1 c).2.1⟩) (Copy.run_main (F := Ideal) m ρ), ?_⟩
  refine (θ_run Cert.ReferenceIdeal.defs _ _).mono
    (fun _ h c => ⟨((h c).1.trans (RefValue.value _ _)).trans ?_, (h c).2⟩) (Cert.ReferenceIdeal.Value.run (F := Ideal) m' ρ')
  exact funext fun i => congrFun (hagree c).2 (Copy.src i)

/-- Bit for bit, the kernel's result is the reference's. -/
theorem bitexact : Cert.bitexact_Kernel_Reference := by
  intro m ρ m' ρ' _ hagree
  refine ⟨fun c => Copy.out (F := Bits) m c,
    (θ_run Cert.KernelIdeal.defs _ _).mono (fun _ h c => ⟨(h.1 c).2.2, (h.1 c).1, (h.1 c).2.1⟩) (Copy.run_main (F := Bits) m ρ), ?_⟩
  refine (θ_run Cert.Reference.defs _ _).mono
    (fun _ h c => ⟨((h c).1.trans (RefValue.value _ _)).trans ?_, (h c).2⟩) (Cert.Reference.Value.run (F := Bits) m' ρ')
  exact funext fun i => congrFun (hagree c).2 (Copy.src i)

/-- Every claim of the certificate. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
